-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1 : Shape := ⟨2, ![1024, 1]⟩
abbrev S1024x1x8192 : Shape := ⟨3, ![1024, 1, 8192]⟩
abbrev S1024x4x8192 : Shape := ⟨3, ![1024, 4, 8192]⟩
abbrev S1024x8192 : Shape := ⟨2, ![1024, 8192]⟩
abbrev S1024x4 : Shape := ⟨2, ![1024, 4]⟩
abbrev S1024x4x1 : Shape := ⟨3, ![1024, 4, 1]⟩
abbrev S1024x4x16 : Shape := ⟨3, ![1024, 4, 16]⟩
abbrev S32x4x16 : Shape := ⟨3, ![32, 4, 16]⟩
abbrev S8192 : Shape := ⟨1, ![8192]⟩
abbrev S4x8192 : Shape := ⟨2, ![4, 8192]⟩
abbrev S_ : Shape := ⟨0, ![]⟩
abbrev S1x8192 : Shape := ⟨2, ![1, 8192]⟩
abbrev S1x4x8192 : Shape := ⟨3, ![1, 4, 8192]⟩
abbrev S1x1x16 : Shape := ⟨3, ![1, 1, 16]⟩
abbrev S16 : Shape := ⟨1, ![16]⟩
abbrev S1x16 : Shape := ⟨2, ![1, 16]⟩

abbrev nBuf : Table → Nat
  | .hbm => 9
  | .local .scVector .vmem => 5
  | _ => 0

abbrev bufTy : (tb : Table) → Fin (nBuf tb) → BufTy
  | .hbm, ⟨0, _⟩ => ⟨S1024x1, .f32⟩
  | .hbm, ⟨1, _⟩ => ⟨S1024x1x8192, .f32⟩
  | .hbm, ⟨2, _⟩ => ⟨S1024x4x8192, .f32⟩
  | .hbm, ⟨3, _⟩ => ⟨S1024x8192, .f32⟩
  | .hbm, ⟨4, _⟩ => ⟨S1024x4, .f32⟩
  | .hbm, ⟨5, _⟩ => ⟨S1024x8192, .f32⟩
  | .hbm, ⟨6, _⟩ => ⟨S1024x4x1, .f32⟩
  | .hbm, ⟨7, _⟩ => ⟨S1024x4x16, .f32⟩
  | .hbm, ⟨8, _⟩ => ⟨S1024x8192, .f32⟩
  | .local .scVector .vmem, ⟨0, _⟩ => ⟨S32x4x16, .f32⟩
  | .local .scVector .vmem, ⟨1, _⟩ => ⟨S8192, .f32⟩
  | .local .scVector .vmem, ⟨2, _⟩ => ⟨S8192, .f32⟩
  | .local .scVector .vmem, ⟨3, _⟩ => ⟨S4x8192, .f32⟩
  | .local .scVector .vmem, ⟨4, _⟩ => ⟨S8192, .f32⟩
  | _, _ => ⟨S1024x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0_scv : Ref sig .scVector := ⟨.hbm, 5, rfl⟩
abbrev main_arg2_scv : Ref sig .scVector := ⟨.hbm, 2, rfl⟩
abbrev main_arg3_scv : Ref sig .scVector := ⟨.hbm, 3, rfl⟩
abbrev main_v2_scv : Ref sig .scVector := ⟨.hbm, 7, rfl⟩
abbrev main_v3_scv : Ref sig .scVector := ⟨.hbm, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r0 : BitVec 32 := 0#32
  let c0_i32_4_r0 : BitVec 32 := 0#32
  ![v2.toNat, 0, 0]
@[reducible] def k0_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg12 : BitVec 32 := Scf.iv c0_i32_0 c1_i32 k0_t1
  let v4 : BitVec 32 := Scalar.addi v2 arg12
  let c0_i32_13_r1 : BitVec 32 := 0#32
  ![v4.toNat, 0]
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg12 : BitVec 32 := Scf.iv c0_i32_0 c1_i32 k0_t1
  let v4 : BitVec 32 := Scalar.addi v2 arg12
  let c0_i32_13_r3 : BitVec 32 := 0#32
  let c0_i32_14_r3 : BitVec 32 := 0#32
  ![v4.toNat, 0, 0]
def k0_off4 (k0_t1 : Fin k0_t1_loop.trips) : Fin 3 → Nat :=
  let c0_i32_0 : BitVec 32 := 0#32
  let c1_i32 : BitVec 32 := 1#32
  let arg12 : BitVec 32 := Scf.iv c0_i32_0 c1_i32 k0_t1
  let v5 : Index := Scalar.indexCast arg12
  let c0_i32_3 : BitVec 32 := 0#32
  let v6 : Index := Scalar.indexCast c0_i32_3
  let c0 : Index := 0#32
  ![v5.toNat, 0, 0]
def k0_off5 (k0_t1 : Fin k0_t1_loop.trips) : Fin 3 → Nat :=
  let c0_i32_0 : BitVec 32 := 0#32
  let c1_i32 : BitVec 32 := 1#32
  let arg12 : BitVec 32 := Scf.iv c0_i32_0 c1_i32 k0_t1
  let v9 : Index := Scalar.indexCast arg12
  let c1_i32_4 : BitVec 32 := 1#32
  let v10 : Index := Scalar.indexCast c1_i32_4
  let c0_5 : Index := 0#32
  ![v9.toNat, 1, 0]
def k0_off6 (k0_t1 : Fin k0_t1_loop.trips) : Fin 3 → Nat :=
  let c0_i32_0 : BitVec 32 := 0#32
  let c1_i32 : BitVec 32 := 1#32
  let arg12 : BitVec 32 := Scf.iv c0_i32_0 c1_i32 k0_t1
  let v13 : Index := Scalar.indexCast arg12
  let c2_i32_6 : BitVec 32 := 2#32
  let v14 : Index := Scalar.indexCast c2_i32_6
  let c0_7 : Index := 0#32
  ![v13.toNat, 2, 0]
def k0_off7 (k0_t1 : Fin k0_t1_loop.trips) : Fin 3 → Nat :=
  let c0_i32_0 : BitVec 32 := 0#32
  let c1_i32 : BitVec 32 := 1#32
  let arg12 : BitVec 32 := Scf.iv c0_i32_0 c1_i32 k0_t1
  let v17 : Index := Scalar.indexCast arg12
  let c3_i32 : BitVec 32 := 3#32
  let v18 : Index := Scalar.indexCast c3_i32
  let c0_8 : Index := 0#32
  ![v17.toNat, 3, 0]
@[reducible] def k0_t2_loop : Scf.Loop 32 :=
  let c0_i32_10 : BitVec 32 := 0#32
  let c512_i32 : BitVec 32 := 512#32
  let v21 : BitVec 32 := Scalar.addi c0_i32_10 c512_i32
  let c1_i32_11 : BitVec 32 := 1#32
  ⟨c0_i32_10, v21, c1_i32_11⟩
def k0_off8 (k0_t2 : Fin k0_t2_loop.trips) : Fin 1 → Nat :=
  let c0_i32_10 : BitVec 32 := 0#32
  let c1_i32_11 : BitVec 32 := 1#32
  let arg13 : BitVec 32 := Scf.iv c0_i32_10 c1_i32_11 k0_t2
  let c16_i32 : BitVec 32 := 16#32
  let v22 : BitVec 32 := Scalar.muli arg13 c16_i32
  let v23 : Index := Scalar.indexCast v22
  ![v23.toNat]
def k0_off9 (k0_t2 : Fin k0_t2_loop.trips) : Fin 2 → Nat :=
  let c0_i32_13 : BitVec 32 := 0#32
  let v33 : Index := Scalar.indexCast c0_i32_13
  let c0_i32_10 : BitVec 32 := 0#32
  let c1_i32_11 : BitVec 32 := 1#32
  let arg13 : BitVec 32 := Scf.iv c0_i32_10 c1_i32_11 k0_t2
  let c16_i32 : BitVec 32 := 16#32
  let v22 : BitVec 32 := Scalar.muli arg13 c16_i32
  let v34 : Index := Scalar.indexCast v22
  ![0, v34.toNat]
def k0_off10 (k0_t2 : Fin k0_t2_loop.trips) : Fin 2 → Nat :=
  let c1_i32_15 : BitVec 32 := 1#32
  let v40 : Index := Scalar.indexCast c1_i32_15
  let c0_i32_10 : BitVec 32 := 0#32
  let c1_i32_11 : BitVec 32 := 1#32
  let arg13 : BitVec 32 := Scf.iv c0_i32_10 c1_i32_11 k0_t2
  let c16_i32 : BitVec 32 := 16#32
  let v22 : BitVec 32 := Scalar.muli arg13 c16_i32
  let v41 : Index := Scalar.indexCast v22
  ![1, v41.toNat]
def k0_off11 (k0_t2 : Fin k0_t2_loop.trips) : Fin 2 → Nat :=
  let c2_i32_17 : BitVec 32 := 2#32
  let v48 : Index := Scalar.indexCast c2_i32_17
  let c0_i32_10 : BitVec 32 := 0#32
  let c1_i32_11 : BitVec 32 := 1#32
  let arg13 : BitVec 32 := Scf.iv c0_i32_10 c1_i32_11 k0_t2
  let c16_i32 : BitVec 32 := 16#32
  let v22 : BitVec 32 := Scalar.muli arg13 c16_i32
  let v49 : Index := Scalar.indexCast v22
  ![2, v49.toNat]
def k0_off12 (k0_t2 : Fin k0_t2_loop.trips) : Fin 2 → Nat :=
  let c3_i32_19 : BitVec 32 := 3#32
  let v55 : Index := Scalar.indexCast c3_i32_19
  let c0_i32_10 : BitVec 32 := 0#32
  let c1_i32_11 : BitVec 32 := 1#32
  let arg13 : BitVec 32 := Scf.iv c0_i32_10 c1_i32_11 k0_t2
  let c16_i32 : BitVec 32 := 16#32
  let v22 : BitVec 32 := Scalar.muli arg13 c16_i32
  let v56 : Index := Scalar.indexCast v22
  ![3, v56.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x1 : Shape := ⟨2, ![1024, 1]⟩
abbrev S1024x1x8192 : Shape := ⟨3, ![1024, 1, 8192]⟩
abbrev S1024x4x8192 : Shape := ⟨3, ![1024, 4, 8192]⟩
abbrev S1024x8192 : Shape := ⟨2, ![1024, 8192]⟩
abbrev S1024x4 : Shape := ⟨2, ![1024, 4]⟩
abbrev S_ : Shape := ⟨0, ![]⟩
abbrev S1024x4x1 : Shape := ⟨3, ![1024, 4, 1]⟩

abbrev nBuf : Space → Nat
  | .hbm => 35
  | .vmem => 0
  | .smem => 0
  | _ => 0

abbrev bufTy : (tb : Table) → Fin (tcTables nBuf tb) → BufTy
  | .hbm, ⟨0, _⟩ => ⟨S1024x1, .f32⟩
  | .hbm, ⟨1, _⟩ => ⟨S1024x1x8192, .f32⟩
  | .hbm, ⟨2, _⟩ => ⟨S1024x4x8192, .f32⟩
  | .hbm, ⟨3, _⟩ => ⟨S1024x8192, .f32⟩
  | .hbm, ⟨4, _⟩ => ⟨S1024x4, .f32⟩
  | .hbm, ⟨5, _⟩ => ⟨S_, .f32⟩
  | .hbm, ⟨6, _⟩ => ⟨S1024x1x8192, .f32⟩
  | .hbm, ⟨7, _⟩ => ⟨S1024x1x8192, .f32⟩
  | .hbm, ⟨8, _⟩ => ⟨S1024x8192, .f32⟩
  | .hbm, ⟨9, _⟩ => ⟨S_, .f32⟩
  | .hbm, ⟨10, _⟩ => ⟨S1024x8192, .f32⟩
  | .hbm, ⟨11, _⟩ => ⟨S1024x8192, .f32⟩
  | .hbm, ⟨12, _⟩ => ⟨S_, .f32⟩
  | .hbm, ⟨13, _⟩ => ⟨S1024x8192, .f32⟩
  | .hbm, ⟨14, _⟩ => ⟨S1024x8192, .f32⟩
  | .hbm, ⟨15, _⟩ => ⟨S1024x8192, .f32⟩
  | .hbm, ⟨16, _⟩ => ⟨S1024x8192, .f32⟩
  | .hbm, ⟨17, _⟩ => ⟨S1024x4x1, .f32⟩
  | .hbm, ⟨18, _⟩ => ⟨S1024x4x8192, .f32⟩
  | .hbm, ⟨19, _⟩ => ⟨S1024x4x8192, .f32⟩
  | .hbm, ⟨20, _⟩ => ⟨S_, .f32⟩
  | .hbm, ⟨21, _⟩ => ⟨S1024x4x8192, .f32⟩
  | .hbm, ⟨22, _⟩ => ⟨S1024x4x8192, .f32⟩
  | .hbm, ⟨23, _⟩ => ⟨S1024x1x8192, .f32⟩
  | .hbm, ⟨24, _⟩ => ⟨S1024x8192, .f32⟩
  | .hbm, ⟨25, _⟩ => ⟨S1024x1x8192, .f32⟩
  | .hbm, ⟨26, _⟩ => ⟨S1024x8192, .f32⟩
  | .hbm, ⟨27, _⟩ => ⟨S1024x8192, .f32⟩
  | .hbm, ⟨28, _⟩ => ⟨S1024x1x8192, .f32⟩
  | .hbm, ⟨29, _⟩ => ⟨S1024x8192, .f32⟩
  | .hbm, ⟨30, _⟩ => ⟨S1024x8192, .f32⟩
  | .hbm, ⟨31, _⟩ => ⟨S1024x1x8192, .f32⟩
  | .hbm, ⟨32, _⟩ => ⟨S1024x8192, .f32⟩
  | .hbm, ⟨33, _⟩ => ⟨S1024x8192, .f32⟩
  | .hbm, ⟨34, _⟩ => ⟨S1024x8192, .f32⟩
  | _, _ => ⟨S1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Spec.lean ====
/-
  What the kernel computes, as a function of whole arrays: one element of the result from the usage, the previous write
  weight, the four previous read weights and the four free gates of its place (`lane`), the result array (`outAt`), and
  the same for one row held in a vector subcore's scratch buffers (`rowAt`).
-/
module

public import Idealize.ShloMosaic.Lib.ValueIdxCore
public import Idealize.ShloMosaic.PureOps

@[expose] public section

noncomputable section

namespace Cert.Proof

open Idealize.ShloMosaic Idealize.ShloMosaic.ValueIdx

variable {F : FTy → Type} [FloatOps F]

/-- One element of the result, from the gates `g`, the usage `u`, the write weight `w` and the read weights `r`. -/
def lane (g : Fin 4 → F .f32) (u w : F .f32) (r : Fin 4 → F .f32) : F .f32 :=
  FloatOps.mulf (FloatOps.addf u (FloatOps.mulf (FloatOps.subf (FloatOps.ofBits .f32 0x3F800000#32) u) w))
    (FloatOps.mulf
      (FloatOps.mulf (FloatOps.subf (FloatOps.ofBits .f32 0x3F800000#32) (FloatOps.mulf (g 0) (r 0)))
        (FloatOps.subf (FloatOps.ofBits .f32 0x3F800000#32) (FloatOps.mulf (g 1) (r 1))))
      (FloatOps.mulf (FloatOps.subf (FloatOps.ofBits .f32 0x3F800000#32) (FloatOps.mulf (g 2) (r 2)))
        (FloatOps.subf (FloatOps.ofBits .f32 0x3F800000#32) (FloatOps.mulf (g 3) (r 3)))))

/-- The place of a column among the sixteen lanes of its vector. -/
def laneOf (k : Fin 8192) : Fin 16 := ⟨k.val % 16, Nat.mod_lt _ (by decide)⟩

/-- The result array, from the write weights `W`, the read weights `R`, the usage `U` and the gates `G` spread over
    sixteen lanes. -/
def outAt (W : Vec F ⟨2, ![1024, 8192]⟩ .f32) (R : Vec F ⟨3, ![1024, 4, 8192]⟩ .f32) (U : Vec F ⟨2, ![1024, 8192]⟩ .f32)
    (G : Vec F ⟨3, ![1024, 4, 16]⟩ .f32) : Vec F ⟨2, ![1024, 8192]⟩ .f32 :=
  fun x => lane (fun h => G (ix3 (x 0) h (laneOf (x 1)))) (U x) (W x) (fun h => R (ix3 (x 0) h (x 1)))

/-- One row of the result, from the row `r` of the gates' block and the row's usage, write weights and read weights. -/
def rowAt (G : Vec F ⟨3, ![32, 4, 16]⟩ .f32) (r : Fin 32) (U W : Vec F ⟨1, ![8192]⟩ .f32) (R : Vec F ⟨2, ![4, 8192]⟩ .f32) :
    Vec F ⟨1, ![8192]⟩ .f32 :=
  fun y => lane (fun h => G (ix3 r h (laneOf (y 0)))) (U y) (W y) (fun h => R (ix2 h (y 0)))

end Cert.Proof

end
-- ==== Proof.SetupIdeal.lean ====
/-
  The launch's set-up for the kernel: the program as the SparseCore launch theorem sees it, the resource algebra
  (the launch handshakes' rounds beside the counters of the local transfers), the buffers, and the vector
  subcores' own scratch buffers and semaphores.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch theorem's side conditions on the program's semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

/-- The launch handshakes' rounds are the left factor of the user algebra. -/
abbrev EH : Emb UH (MT nD τ sig (HIx 1) (Elt F) ℕ UU ℕ) := embL

/-! ## The buffers -/

abbrev wwLoc (d : Dev nD) : Loc nD τ sig := (SparseCore.T d).loc main_v0
abbrev rwLoc (d : Dev nD) : Loc nD τ sig := (SparseCore.T d).loc main_arg2
abbrev usLoc (d : Dev nD) : Loc nD τ sig := (SparseCore.T d).loc main_arg3
abbrev fgLoc (d : Dev nD) : Loc nD τ sig := (SparseCore.T d).loc main_v2
abbrev oLoc (d : Dev nD) : Loc nD τ sig := (SparseCore.T d).loc main_v3

abbrev wwV : Memref sig .scVector .hbm S1024x8192 .f32 := Memref.whole main_v0_scv
abbrev rwV : Memref sig .scVector .hbm S1024x4x8192 .f32 := Memref.whole main_arg2_scv
abbrev usV : Memref sig .scVector .hbm S1024x8192 .f32 := Memref.whole main_arg3_scv
abbrev fgV : Memref sig .scVector .hbm S1024x4x16 .f32 := Memref.whole main_v2_scv
abbrev oV : Memref sig .scVector .hbm S1024x8192 .f32 := Memref.whole main_v3_scv
abbrev fgS : Memref sig .scVector .vmem S32x4x16 .f32 := Memref.whole cc0_scratch0
abbrev usS : Memref sig .scVector .vmem S8192 .f32 := Memref.whole cc0_scratch1
abbrev wwS : Memref sig .scVector .vmem S8192 .f32 := Memref.whole cc0_scratch2
abbrev rwS : Memref sig .scVector .vmem S4x8192 .f32 := Memref.whole cc0_scratch3
abbrev oS : Memref sig .scVector .vmem S8192 .f32 := Memref.whole cc0_scratch4

/-- The vector subcore a grid point names. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Row `k` of a subcore's thirty-two rows of the result, as the kernel slices it. -/
abbrev oRow (L : grid0.Coords) (k : Fin k0_t1_loop.trips) : Memref sig .scVector .hbm S8192 .f32 :=
  ((oV : Memref sig .scVector .hbm S1024x8192 .f32).slice (Rect.unit (s := S1024x8192) (k0_off2 L k) S1x8192.size (k0_off2_inb L k)) (fun _ => rfl)).squeeze S8192 squeezes_S1x8192_S8192

/-! ## A vector subcore's own semaphores and buffers -/

/-- The five transfer semaphores the kernel's scoped allocations name. -/
abbrev dcell (d : Dev nD) (L : grid0.Coords) (s : DmaSems sig S_) : GSem nD τ sig := (thr d L, .dma s.sem)

/-- Different semaphores of a subcore are different cells. -/
theorem dcell_ne (d : Dev nD) (L : grid0.Coords) {a b : DmaSems sig S_} (h : (SemLoc.dma a.sem : SemLoc sig) ≠ .dma b.sem) : dcell d L a ≠ dcell d L b :=
  fun e => h (Prod.mk.inj e).2

/-- A scoped semaphore of the subcore is among its own cells. -/
theorem dcell_own (d : Dev nD) (L : grid0.Coords) (a : DmaSems sig S_) (h : (SemLoc.dma a.sem : SemLoc sig).isScoped .scVector = true) :
    dcell d L a ∈ ownCells (thr d L) := (mem_ownCells (g := dcell d L a)).mpr ⟨rfl, h⟩

/-- Those five are among the subcore's own semaphores, which are them and a rest. -/
theorem ownSems0_split (d : Dev nD) (L : grid0.Coords) :
    ∃ R : sProp 𝕄, (ownSems0 (thr d L) : sProp 𝕄)
      = iprop(semVal (thr d L, .dma cc0_scoped0.sem) 0 ∗ semVal (thr d L, .dma cc0_scoped1.sem) 0 ∗ semVal (thr d L, .dma cc0_scoped2.sem) 0
          ∗ semVal (thr d L, .dma cc0_scoped3.sem) 0 ∗ semVal (thr d L, .dma cc0_scoped4.sem) 0 ∗ R) := by
  have own (a : DmaSems sig S_) (h : (SemLoc.dma a.sem : SemLoc sig).isScoped .scVector = true) := dcell_own d L a h
  have o0 := own cc0_scoped0 (by decide)
  have o1 := Finset.mem_erase.mpr ⟨dcell_ne d L (a := cc0_scoped1) (b := cc0_scoped0) (by decide), own cc0_scoped1 (by decide)⟩
  have o2 := Finset.mem_erase.mpr ⟨dcell_ne d L (a := cc0_scoped2) (b := cc0_scoped1) (by decide),
    Finset.mem_erase.mpr ⟨dcell_ne d L (a := cc0_scoped2) (b := cc0_scoped0) (by decide), own cc0_scoped2 (by decide)⟩⟩
  have o3 := Finset.mem_erase.mpr ⟨dcell_ne d L (a := cc0_scoped3) (b := cc0_scoped2) (by decide),
    Finset.mem_erase.mpr ⟨dcell_ne d L (a := cc0_scoped3) (b := cc0_scoped1) (by decide),
      Finset.mem_erase.mpr ⟨dcell_ne d L (a := cc0_scoped3) (b := cc0_scoped0) (by decide), own cc0_scoped3 (by decide)⟩⟩⟩
  have o4 := Finset.mem_erase.mpr ⟨dcell_ne d L (a := cc0_scoped4) (b := cc0_scoped3) (by decide),
    Finset.mem_erase.mpr ⟨dcell_ne d L (a := cc0_scoped4) (b := cc0_scoped2) (by decide),
      Finset.mem_erase.mpr ⟨dcell_ne d L (a := cc0_scoped4) (b := cc0_scoped1) (by decide),
        Finset.mem_erase.mpr ⟨dcell_ne d L (a := cc0_scoped4) (b := cc0_scoped0) (by decide), own cc0_scoped4 (by decide)⟩⟩⟩⟩
  refine ⟨bigSep ((((((ownCells (thr d L)).erase (dcell d L cc0_scoped0)).erase (dcell d L cc0_scoped1)).erase (dcell d L cc0_scoped2)).erase
    (dcell d L cc0_scoped3)).erase (dcell d L cc0_scoped4)) fun g => semVal g 0, ?_⟩
  unfold SparseCore.Cfg.ownSems0
  rw [SparseCore.bigSep_erase' o0, SparseCore.bigSep_erase' o1, SparseCore.bigSep_erase' o2, SparseCore.bigSep_erase' o3, SparseCore.bigSep_erase' o4]

/-- A scratch operand's buffer on a vector subcore. -/
abbrev sref (L : grid0.Coords) (b : Ref sig .scVector) : DevRef τ sig := (Proc.scVector (cV L) (jV L)).devRef b

/-- Different scratch buffers of a subcore are different references. -/
theorem sref_ne (L : grid0.Coords) {a b : Ref sig .scVector} (h : a ≠ b) : sref L a ≠ sref L b :=
  fun e => h (Proc.devRef_injective _ e)

/-- The five scratch buffers are among the subcore's own buffers, which are them, each at some contents, and a rest. -/
theorem ownBufs_split (d : Dev nD) (L : grid0.Coords) :
    ∃ R : sProp 𝕄, (ownBufs (thr d L) : sProp 𝕄)
      = iprop((∃ f, (fgS).view.loc (thr d L) ↦{fullShare} f) ∗ (∃ f, (usS).view.loc (thr d L) ↦{fullShare} f)
          ∗ (∃ f, (wwS).view.loc (thr d L) ↦{fullShare} f) ∗ (∃ f, (rwS).view.loc (thr d L) ↦{fullShare} f)
          ∗ (∃ f, (oS).view.loc (thr d L) ↦{fullShare} f) ∗ R) := by
  have own (b : Ref sig .scVector) (h : (sref L b).owner = .proc (Proc.scVector (τ := τ) (cV L) (jV L))) :
      sref L b ∈ ownRefs (τ := τ) (.scVector (cV L) (jV L)) := SparseCore.Cfg.mem_ownRefs_of_owner h
  have o0 := own cc0_scratch0 rfl
  have o1 := Finset.mem_erase.mpr ⟨sref_ne L (a := cc0_scratch1) (b := cc0_scratch0) (by decide), own cc0_scratch1 rfl⟩
  have o2 := Finset.mem_erase.mpr ⟨sref_ne L (a := cc0_scratch2) (b := cc0_scratch1) (by decide),
    Finset.mem_erase.mpr ⟨sref_ne L (a := cc0_scratch2) (b := cc0_scratch0) (by decide), own cc0_scratch2 rfl⟩⟩
  have o3 := Finset.mem_erase.mpr ⟨sref_ne L (a := cc0_scratch3) (b := cc0_scratch2) (by decide),
    Finset.mem_erase.mpr ⟨sref_ne L (a := cc0_scratch3) (b := cc0_scratch1) (by decide),
      Finset.mem_erase.mpr ⟨sref_ne L (a := cc0_scratch3) (b := cc0_scratch0) (by decide), own cc0_scratch3 rfl⟩⟩⟩
  have o4 := Finset.mem_erase.mpr ⟨sref_ne L (a := cc0_scratch4) (b := cc0_scratch3) (by decide),
    Finset.mem_erase.mpr ⟨sref_ne L (a := cc0_scratch4) (b := cc0_scratch2) (by decide),
      Finset.mem_erase.mpr ⟨sref_ne L (a := cc0_scratch4) (b := cc0_scratch1) (by decide),
        Finset.mem_erase.mpr ⟨sref_ne L (a := cc0_scratch4) (b := cc0_scratch0) (by decide), own cc0_scratch4 rfl⟩⟩⟩⟩
  refine ⟨bigSep ((((((ownRefs (τ := τ) (.scVector (cV L) (jV L))).erase (sref L cc0_scratch0)).erase (sref L cc0_scratch1)).erase (sref L cc0_scratch2)).erase
    (sref L cc0_scratch3)).erase (sref L cc0_scratch4)) fun b => iprop(∃ f, ((d, b) : Loc nD τ sig) ↦{fullShare} f), ?_⟩
  unfold SparseCore.Cfg.ownBufs
  refine (SparseCore.bigSep_erase' o0).trans ?_
  rw [SparseCore.bigSep_erase' o1, SparseCore.bigSep_erase' o2, SparseCore.bigSep_erase' o3, SparseCore.bigSep_erase' o4]

end Cert.Proof.KernelIdeal

end
-- ==== Proof.RowsIdeal.lean ====
/-
  The kernel's loads, stores and row transfers as array elements: what one vector of the column loop stores, that a trip
  of the column loop extends the finished part of the row by sixteen columns, and that the row computed from the fetched
  rows is the result's row.
-/
module

public import proofs.«01_k».proof.Proof.SetupIdeal
public import proofs.«01_k».proof.Proof.Spec
public import Idealize.ShloMosaic.Lib.Pointwise
public import Idealize.ShloMosaic.Lib.WritesUnit

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F] (L : grid0.Coords)

/-! ## One vector of the column loop -/

set_option maxRecDepth 16384 in
/-- What the kernel stores for one vector of sixteen columns, lane by lane. -/
theorem pay_apply (a0 a1 a2 a3 : Vec F S1x1x16 .f32) (u w : Vec F S16 .f32) (r0 r1 r2 r3 : Vec F S1x16 .f32) (x : S16.Idx) :
    k0_pay1 (k0_pay2 a0) (k0_pay3 a1) a2 a3 u w r0 r1 r2 r3 x
      = lane ![a0 (ValueIdx.ix3 0 0 (x 0)), a1 (ValueIdx.ix3 0 0 (x 0)), a2 (ValueIdx.ix3 0 0 (x 0)), a3 (ValueIdx.ix3 0 0 (x 0))] (u x) (w x)
          ![r0 (ValueIdx.ix2 0 (x 0)), r1 (ValueIdx.ix2 0 (x 0)), r2 (ValueIdx.ix2 0 (x 0)), r3 (ValueIdx.ix2 0 (x 0))] := by
  have e3 (a : Vec F S1x1x16 .f32) : shapeCast S16 a shapeCasts_S1x1x16_S16 x = a (ValueIdx.ix3 0 0 (x 0)) :=
    congrArg a (Shape.reshapeEquiv_eq_of_rowMajor _ (by
      rw [rowMajor_val3 _ 16 16 rfl rfl, rowMajor_val1]
      simp [ValueIdx.ix3]))
  have e2 (a : Vec F S1x16 .f32) : shapeCast S16 a shapeCasts_S1x16_S16 x = a (ValueIdx.ix2 0 (x 0)) :=
    congrArg a (Shape.reshapeEquiv_eq_of_rowMajor _ (by
      rw [rowMajor_val2 _ 16 rfl, rowMajor_val1]
      simp [ValueIdx.ix2]))
  unfold k0_pay1 k0_pay2 k0_pay3 lane
  simp only [shapeCast_id]
  show FloatOps.mulf (FloatOps.addf _ (FloatOps.mulf (FloatOps.subf _ _) _)) (FloatOps.mulf
    (FloatOps.mulf (FloatOps.subf _ (FloatOps.mulf (shapeCast S16 a0 shapeCasts_S1x1x16_S16 x) (shapeCast S16 r0 shapeCasts_S1x16_S16 x)))
      (FloatOps.subf _ (FloatOps.mulf (shapeCast S16 a1 shapeCasts_S1x1x16_S16 x) (shapeCast S16 r1 shapeCasts_S1x16_S16 x))))
    (FloatOps.mulf (FloatOps.subf _ (FloatOps.mulf (shapeCast S16 a2 shapeCasts_S1x1x16_S16 x) (shapeCast S16 r2 shapeCasts_S1x16_S16 x)))
      (FloatOps.subf _ (FloatOps.mulf (shapeCast S16 a3 shapeCasts_S1x1x16_S16 x) (shapeCast S16 r3 shapeCasts_S1x16_S16 x))))) = _
  rw [e3 a0, e3 a1, e3 a2, e3 a3, e2 r0, e2 r1, e2 r2, e2 r3]
  rfl

/-- A row of the gates' block, read from column zero: gate `h` of row `k`. -/
theorem gate_read (G : Vec F S32x4x16 .f32) (k : Fin k0_t1_loop.trips) (h : Fin 4) (l : Fin 16) (off : Fin 3 → Nat)
    (hoff : off = ![k.val, h.val, 0]) (inb : ∀ a, off a + S1x1x16.size a ≤ S32x4x16.size a) :
    (fgS).view.readAt (Elt F) (Rect.unit (s := S32x4x16) off S1x1x16.size inb).toLoadRect G (ValueIdx.ix3 0 0 l)
      = G (ValueIdx.ix3 ⟨k.val, k.isLt⟩ h l) := by
  subst hoff
  refine congrArg G (funext fun a => Fin.ext ?_)
  match a with
  | 0 => exact Nat.add_zero k.val
  | 1 => exact Nat.add_zero h.val
  | 2 => exact (Nat.zero_add _).trans (Nat.one_mul l.val)

/-- Sixteen columns of a row fetched to a scratch buffer, read from column `16 t`. -/
theorem us_read (X : Vec F S8192 .f32) (t : Fin k0_t2_loop.trips) (x : S16.Idx) (y : S8192.Idx) (hy : (y 0).val = 16 * t.val + (x 0).val) :
    (usS).view.readAt (Elt F) (Rect.unit (s := S8192) (k0_off8 t) S16.size (k0_off8_inb t)).toLoadRect X x = X y := by
  refine congrArg X (funext fun a => Fin.ext ?_)
  match a with
  | 0 =>
    rw [hy]
    show (k0_off8 t) 0 + 1 * (x 0).val = _
    rw [k0_off8_eq t, Nat.one_mul]
    rfl

/-- The same of the write weights' row. -/
theorem ww_read (X : Vec F S8192 .f32) (t : Fin k0_t2_loop.trips) (x : S16.Idx) (y : S8192.Idx) (hy : (y 0).val = 16 * t.val + (x 0).val) :
    (wwS).view.readAt (Elt F) (Rect.unit (s := S8192) (k0_off8 t) S16.size (k0_off8_inb t)).toLoadRect X x = X y :=
  us_read X t x y hy

/-- Sixteen columns of read head `h`'s fetched row. -/
theorem rw_read (X : Vec F S4x8192 .f32) (t : Fin k0_t2_loop.trips) (h : Fin 4) (off : Fin 2 → Nat) (hoff : off = ![h.val, 16 * t.val])
    (inb : ∀ a, off a + S1x16.size a ≤ S4x8192.size a) (l : Fin 16) (y : S8192.Idx) (hy : (y 0).val = 16 * t.val + l.val) :
    (rwS).view.readAt (Elt F) (Rect.unit (s := S4x8192) off S1x16.size inb).toLoadRect X (ValueIdx.ix2 0 l) = X (ValueIdx.ix2 h (y 0)) := by
  subst hoff
  refine congrArg X (funext fun a => Fin.ext ?_)
  match a with
  | 0 => exact Nat.add_zero h.val
  | 1 =>
    refine Eq.trans ?_ hy.symm
    show 16 * t.val + 1 * l.val = _
    rw [Nat.one_mul]

set_option maxRecDepth 16384 in
/-- One trip of the column loop: a row finished up to column `16 t` is finished up to column `16 (t + 1)` once the
    vector of trip `t` is stored. -/
theorem column_step (G : Vec F S32x4x16 .f32) (k : Fin k0_t1_loop.trips) (U W : Vec F S8192 .f32) (R : Vec F S4x8192 .f32)
    (f : Vec F S8192 .f32) (t : Fin k0_t2_loop.trips)
    (hf : ∀ y : S8192.Idx, (y 0).val < 16 * t.val → f y = rowAt G ⟨k.val, k.isLt⟩ U W R y) :
    ∀ y : S8192.Idx, (y 0).val < 16 * (t.val + 1) →
      (oS).view.writes (Elt F) f [⟨Rect.unit (s := S8192) (k0_off8 t) S16.size (k0_off8_inb t),
        k0_pay1
          (k0_pay2 ((fgS).view.readAt (Elt F) (Rect.unit (s := S32x4x16) (k0_off4 k) S1x1x16.size (k0_off4_inb k)).toLoadRect G))
          (k0_pay3 ((fgS).view.readAt (Elt F) (Rect.unit (s := S32x4x16) (k0_off5 k) S1x1x16.size (k0_off5_inb k)).toLoadRect G))
          ((fgS).view.readAt (Elt F) (Rect.unit (s := S32x4x16) (k0_off6 k) S1x1x16.size (k0_off6_inb k)).toLoadRect G)
          ((fgS).view.readAt (Elt F) (Rect.unit (s := S32x4x16) (k0_off7 k) S1x1x16.size (k0_off7_inb k)).toLoadRect G)
          ((usS).view.readAt (Elt F) (Rect.unit (s := S8192) (k0_off8 t) S16.size (k0_off8_inb t)).toLoadRect U)
          ((wwS).view.readAt (Elt F) (Rect.unit (s := S8192) (k0_off8 t) S16.size (k0_off8_inb t)).toLoadRect W)
          ((rwS).view.readAt (Elt F) (Rect.unit (s := S4x8192) (k0_off9 t) S1x16.size (k0_off9_inb t)).toLoadRect R)
          ((rwS).view.readAt (Elt F) (Rect.unit (s := S4x8192) (k0_off10 t) S1x16.size (k0_off10_inb t)).toLoadRect R)
          ((rwS).view.readAt (Elt F) (Rect.unit (s := S4x8192) (k0_off11 t) S1x16.size (k0_off11_inb t)).toLoadRect R)
          ((rwS).view.readAt (Elt F) (Rect.unit (s := S4x8192) (k0_off12 t) S1x16.size (k0_off12_inb t)).toLoadRect R)⟩] y
        = rowAt G ⟨k.val, k.isLt⟩ U W R y := by
  intro y hy
  by_cases hlt : (y 0).val < 16 * t.val
  · refine Eq.trans ?_ (hf y hlt)
    exact View.read_writes_cons_unit_of_not_mem (oS).view f (k0_off8_inb t) _ [] y (k0_off8_eq t) 0 (.inl hlt)
  · have hx : (y 0).val - 16 * t.val < 16 := by omega
    let x : S16.Idx := fun a => match a with | 0 => ⟨(y 0).val - 16 * t.val, hx⟩
    have hyx : (y 0).val = 16 * t.val + (x 0).val := by
      show (y 0).val = 16 * t.val + ((y 0).val - 16 * t.val)
      omega
    have hl : x 0 = laneOf (y 0) := Fin.ext (by
      show (y 0).val - 16 * t.val = (y 0).val % 16
      omega)
    refine (View.read_writes_cons_unit_of_mem (oS).view f (k0_off8_inb t) _ [] y x (k0_off8_eq t) (fun a => by
      match a with
      | 0 => exact hyx)).trans ?_
    rw [pay_apply, gate_read G k 0 (x 0) _ (k0_off4_eq k), gate_read G k 1 (x 0) _ (k0_off5_eq k), gate_read G k 2 (x 0) _ (k0_off6_eq k),
      gate_read G k 3 (x 0) _ (k0_off7_eq k), us_read U t x y hyx, ww_read W t x y hyx, rw_read R t 0 _ (k0_off9_eq t) _ (x 0) y hyx,
      rw_read R t 1 _ (k0_off10_eq t) _ (x 0) y hyx, rw_read R t 2 _ (k0_off11_eq t) _ (x 0) y hyx,
      rw_read R t 3 _ (k0_off12_eq t) _ (x 0) y hyx, hl]
    rfl

/-! ## The rows a trip of the row loop moves -/

/-- The usage row, the write weights' row and the read weights' rows that trip `k` fetches, and the gates' block fetched
    once, as the kernel slices them. -/
abbrev usRow (k : Fin k0_t1_loop.trips) : Memref sig .scVector .hbm S8192 .f32 :=
  ((usV : Memref sig .scVector .hbm S1024x8192 .f32).slice (Rect.unit (s := S1024x8192) (k0_off2 L k) S1x8192.size (k0_off2_inb L k)) (fun _ => rfl)).squeeze S8192 squeezes_S1x8192_S8192
abbrev wwRow (k : Fin k0_t1_loop.trips) : Memref sig .scVector .hbm S8192 .f32 :=
  ((wwV : Memref sig .scVector .hbm S1024x8192 .f32).slice (Rect.unit (s := S1024x8192) (k0_off2 L k) S1x8192.size (k0_off2_inb L k)) (fun _ => rfl)).squeeze S8192 squeezes_S1x8192_S8192
abbrev rwRow (k : Fin k0_t1_loop.trips) : Memref sig .scVector .hbm S4x8192 .f32 :=
  ((rwV : Memref sig .scVector .hbm S1024x4x8192 .f32).slice (Rect.unit (s := S1024x4x8192) (k0_off3 L k) S1x4x8192.size (k0_off3_inb L k)) (fun _ => rfl)).squeeze S4x8192 squeezes_S1x4x8192_S4x8192
abbrev fgBlk : Memref sig .scVector .hbm S32x4x16 .f32 :=
  (fgV : Memref sig .scVector .hbm S1024x4x16 .f32).slice (Rect.unit (s := S1024x4x16) (k0_off1 L) S32x4x16.size (k0_off1_inb L)) (fun _ => rfl)

/-- The array row of a subcore's row `k`. -/
def rowOf (k : Fin 32) : Fin 1024 :=
  ⟨64 * (L 1).val + 32 * (L 0).val + k.val, by
    have h0 : (L 0).val < 2 := (L 0).isLt
    have h1 : (L 1).val < 16 := (L 1).isLt
    have := k.isLt
    omega⟩

/-- Column `y` of row `k`, in the result's array. -/
theorem oRow_emb (k : Fin k0_t1_loop.trips) (y : S8192.Idx) :
    ((oRow L k).view.emb y : S1024x8192.Idx) = ValueIdx.ix2 (rowOf L ⟨k.val, k.isLt⟩) (y 0) := by
  have e : Shape.reshapeEquiv (squeezes_S1x8192_S8192 : S1x8192.Squeezes S8192).numel_eq y = (ValueIdx.ix2 0 (y 0) : S1x8192.Idx) :=
    Shape.reshapeEquiv_eq_of_rowMajor _ (by
      rw [rowMajor_val2 _ 8192 rfl, rowMajor_val1]
      simp [ValueIdx.ix2])
  refine Eq.trans (b := (Rect.unit (s := S1024x8192) (k0_off2 L k) S1x8192.size (k0_off2_inb L k)).emb
    (Shape.reshapeEquiv (squeezes_S1x8192_S8192 : S1x8192.Squeezes S8192).numel_eq y)) rfl ?_
  rw [e]
  refine funext fun a => Fin.ext ?_
  rw [Rect.emb_apply]
  match a with
  | 0 =>
    show (k0_off2 L k) 0 + 1 * 0 = 64 * (L 1).val + 32 * (L 0).val + k.val
    rw [k0_off2_eq]; rfl
  | 1 =>
    show (k0_off2 L k) 1 + 1 * (y 0).val = (y 0).val
    rw [k0_off2_eq, Nat.one_mul]; exact Nat.zero_add _

/-- The fetched usage row, write weights' row and read weights' rows, element by element. -/
theorem usRow_read (k : Fin k0_t1_loop.trips) (fu : Vec F S1024x8192 .f32) (y : S8192.Idx) :
    (usRow L k).view.read (Elt F) fu y = fu (ValueIdx.ix2 (rowOf L ⟨k.val, k.isLt⟩) (y 0)) :=
  congrArg fu (oRow_emb L k y)

/-- The row of the write weights that the copy reads is the row's number in the array. -/
theorem wwRow_read (k : Fin k0_t1_loop.trips) (fw : Vec F S1024x8192 .f32) (y : S8192.Idx) :
    (wwRow L k).view.read (Elt F) fw y = fw (ValueIdx.ix2 (rowOf L ⟨k.val, k.isLt⟩) (y 0)) :=
  congrArg fw (oRow_emb L k y)

/-- The four rows of the read weights that the copy reads are those of the row's number. -/
theorem rwRow_read (k : Fin k0_t1_loop.trips) (fr : Vec F S1024x4x8192 .f32) (h : Fin 4) (y : Fin 8192) :
    (rwRow L k).view.read (Elt F) fr (ValueIdx.ix2 h y) = fr (ValueIdx.ix3 (rowOf L ⟨k.val, k.isLt⟩) h y) := by
  have e : Shape.reshapeEquiv (squeezes_S1x4x8192_S4x8192 : S1x4x8192.Squeezes S4x8192).numel_eq (ValueIdx.ix2 h y) = (ValueIdx.ix3 0 h y : S1x4x8192.Idx) :=
    Shape.reshapeEquiv_eq_of_rowMajor _ (by
      rw [rowMajor_val3 _ 32768 8192 rfl rfl, rowMajor_val2 _ 8192 rfl]
      simp [ValueIdx.ix2, ValueIdx.ix3])
  refine Eq.trans (b := fr ((Rect.unit (s := S1024x4x8192) (k0_off3 L k) S1x4x8192.size (k0_off3_inb L k)).emb
    (Shape.reshapeEquiv (squeezes_S1x4x8192_S4x8192 : S1x4x8192.Squeezes S4x8192).numel_eq (ValueIdx.ix2 h y)))) rfl (congrArg fr ?_)
  rw [e]
  refine funext fun a => Fin.ext ?_
  rw [Rect.emb_apply]
  match a with
  | 0 =>
    show (k0_off3 L k) 0 + 1 * 0 = 64 * (L 1).val + 32 * (L 0).val + k.val
    rw [k0_off3_eq]; rfl
  | 1 =>
    show (k0_off3 L k) 1 + 1 * h.val = h.val
    rw [k0_off3_eq, Nat.one_mul]; exact Nat.zero_add _
  | 2 =>
    show (k0_off3 L k) 2 + 1 * y.val = y.val
    rw [k0_off3_eq, Nat.one_mul]; exact Nat.zero_add _

/-- The fetched block of gates, element by element. -/
theorem fgBlk_read (fg : Vec F S1024x4x16 .f32) (r : Fin 32) (h : Fin 4) (l : Fin 16) :
    (fgBlk L).view.read (Elt F) fg (ValueIdx.ix3 r h l) = fg (ValueIdx.ix3 (rowOf L r) h l) := by
  refine Eq.trans (b := fg ((Rect.unit (s := S1024x4x16) (k0_off1 L) S32x4x16.size (k0_off1_inb L)).emb (ValueIdx.ix3 r h l))) rfl (congrArg fg ?_)
  refine funext fun a => Fin.ext ?_
  rw [Rect.emb_apply]
  match a with
  | 0 =>
    show (k0_off1 L) 0 + 1 * r.val = 64 * (L 1).val + 32 * (L 0).val + r.val
    rw [k0_off1_eq, Nat.one_mul]; rfl
  | 1 =>
    show (k0_off1 L) 1 + 1 * h.val = h.val
    rw [k0_off1_eq, Nat.one_mul]; exact Nat.zero_add _
  | 2 =>
    show (k0_off1 L) 2 + 1 * l.val = l.val
    rw [k0_off1_eq, Nat.one_mul]; exact Nat.zero_add _

/-- The row computed from the fetched rows is the result's row. -/
theorem row_value (k : Fin k0_t1_loop.trips) (fw fu : Vec F S1024x8192 .f32) (fr : Vec F S1024x4x8192 .f32) (fg : Vec F S1024x4x16 .f32) (y : S8192.Idx) :
    rowAt ((fgBlk L).view.read (Elt F) fg) ⟨k.val, k.isLt⟩ ((usRow L k).view.read (Elt F) fu) ((wwRow L k).view.read (Elt F) fw)
        ((rwRow L k).view.read (Elt F) fr) y
      = outAt fw fr fu fg (ValueIdx.ix2 (rowOf L ⟨k.val, k.isLt⟩) (y 0)) := by
  unfold rowAt outAt
  rw [usRow_read, wwRow_read]
  congr 1
  · exact funext fun h => fgBlk_read L fg _ h _
  · exact funext fun h => rwRow_read L k fr h _

/-- Writing the finished row out leaves row `k` of the result at its stated values. -/
theorem row_written (k : Fin k0_t1_loop.trips) (fw fu : Vec F S1024x8192 .f32) (fr : Vec F S1024x4x8192 .f32) (fg : Vec F S1024x4x16 .f32)
    (fo : Vec F S1024x8192 .f32) (f : Vec F S8192 .f32)
    (hf : ∀ y : S8192.Idx, f y = rowAt ((fgBlk L).view.read (Elt F) fg) ⟨k.val, k.isLt⟩ ((usRow L k).view.read (Elt F) fu)
      ((wwRow L k).view.read (Elt F) fw) ((rwRow L k).view.read (Elt F) fr) y) :
    ∀ i ∈ (oRow L k).view.set, (oRow L k).view.writes (Elt F) fo [⟨Rect.whole S8192, f⟩] i = outAt fw fr fu fg i := by
  intro i hi
  obtain ⟨y, -, rfl⟩ := Finset.mem_map.mp hi
  have e : (oRow L k).view.read (Elt F) ((oRow L k).view.writes (Elt F) fo [⟨Rect.whole S8192, f⟩]) y = f y :=
    congrFun (View.read_writes_whole (oRow L k).view fo f) y
  rw [View.read_apply, cast_eq] at e
  rw [e, hf y, row_value]
  exact congrArg (outAt fw fr fu fg) (oRow_emb L k y).symm

/-! ## The rows of the result a subcore owns -/

/-- The elements of the result in a subcore's thirty-two rows. -/
def tileSet : Finset S1024x8192.Idx :=
  Finset.univ.filter fun x => 64 * (L 1).val + 32 * (L 0).val ≤ (x 0).val ∧ (x 0).val < 64 * (L 1).val + 32 * (L 0).val + 32

/-- The elements of row `k` are those whose first coordinate is its array row. -/
theorem mem_oRow_set (k : Fin k0_t1_loop.trips) (x : S1024x8192.Idx) :
    x ∈ (oRow L k).view.set ↔ (x 0).val = 64 * (L 1).val + 32 * (L 0).val + k.val := by
  constructor
  · intro hx
    obtain ⟨y, -, rfl⟩ := Finset.mem_map.mp hx
    exact congrArg (fun z : S1024x8192.Idx => (z 0).val) (oRow_emb L k y)
  · intro hx
    have e : (oRow L k).view.emb (fun a => match a with | 0 => x 1) = x := by
      refine (oRow_emb L k _).trans (funext fun a => Fin.ext ?_)
      match a with
      | 0 => exact hx.symm
      | 1 => rfl
    exact e ▸ View.emb_mem_set _ _

/-- A row that the subcore writes lies among its rows of the result. -/
theorem oRow_sub (k : Fin k0_t1_loop.trips) : (oRow L k).view.set ⊆ tileSet L := by
  intro x hx
  have := (mem_oRow_set L k x).mp hx
  have hk : k.val < 32 := k.isLt
  exact Finset.mem_filter.mpr ⟨Finset.mem_univ _, by omega, by omega⟩

/-- The result after `k` of a subcore's rows: `g` in the finished rows, `f` elsewhere. -/
def mix (f g : Vec F S1024x8192 .f32) (k : Nat) : Vec F S1024x8192 .f32 :=
  fun x => if (x 0).val < 64 * (L 1).val + 32 * (L 0).val + k then g x else f x

/-- Before the first row nothing is replaced. -/
theorem mix_zero (f g : Vec F S1024x8192 .f32) : ∀ x ∈ tileSet L, f x = mix L f g 0 x := by
  intro x hx
  have := (Finset.mem_filter.mp hx).2.1
  exact (if_neg (by omega)).symm

/-- After 32 rows all the subcore's rows are replaced. -/
theorem mix_done (f g : Vec F S1024x8192 .f32) (k : Nat) (hk : k = 32) : ∀ x ∈ tileSet L, mix L f g k x = g x := by
  subst hk
  intro x hx
  exact if_pos (Finset.mem_filter.mp hx).2.2

/-- Row `k` just finished: there the next stage is `g`; -/
theorem mix_row (f g : Vec F S1024x8192 .f32) (k : Fin k0_t1_loop.trips) : ∀ x ∈ (oRow L k).view.set, g x = mix L f g (k.val + 1) x := by
  intro x hx
  have := (mem_oRow_set L k x).mp hx
  exact (if_pos (by omega)).symm

/-- and the other rows are as at the stage before. -/
theorem mix_rest (f g : Vec F S1024x8192 .f32) (k : Fin k0_t1_loop.trips) :
    ∀ x ∈ tileSet L \ (oRow L k).view.set, mix L f g k.val x = mix L f g (k.val + 1) x := by
  intro x hx
  have hne : ¬ (x 0).val = 64 * (L 1).val + 32 * (L 0).val + k.val := fun e => (Finset.mem_sdiff.mp hx).2 ((mem_oRow_set L k x).mpr e)
  unfold mix
  by_cases h : (x 0).val < 64 * (L 1).val + 32 * (L 0).val + k.val
  · rw [if_pos h, if_pos (by omega)]
  · rw [if_neg h, if_neg (by omega)]

end Cert.Proof.KernelIdeal

end
-- ==== Proof.TileIdeal.lean ====
/-
  One vector subcore's share of the launch: the column loop, one trip of the row loop, the row loop and the whole body.
-/
module

public import proofs.«01_k».proof.Proof.RowsIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid0.Coords)

/-- The column loop's invariant: the three fetched rows as they are, and the output row finished up to column `16 t`. -/
def innerInv (G : Vec F S32x4x16 .f32) (k : Fin k0_t1_loop.trips) (U W : Vec F S8192 .f32) (R : Vec F S4x8192 .f32) (t : Nat) (_ : PUnit) : sProp 𝕄 :=
  iprop(((usS).view.loc (thr d L) ↦{fullShare} U) ∗ ((wwS).view.loc (thr d L) ↦{fullShare} W) ∗ ((rwS).view.loc (thr d L) ↦{fullShare} R)
    ∗ ∃ f, ⌜∀ y : S8192.Idx, (y 0).val < 16 * t → f y = rowAt G ⟨k.val, k.isLt⟩ U W R y⌝ ∗ (oS).view.loc (thr d L) ↦{fullShare} f)

set_option maxRecDepth 16384 in
/-- One trip of the row loop: with the gates' block in scratch, row `k` of the result is left as stated and everything
    else is given back. -/
theorem trip (O : CellTallies nD τ sig (HIx 1)) (Ws : Waits sig (HIx 1)) (k : Fin k0_t1_loop.trips) (v2 : BitVec 32)
    (q : PosShare TreeShare) (fw : Buf (Elt F) (wwLoc d)) (fr : Buf (Elt F) (rwLoc d)) (fu : Buf (Elt F) (usLoc d)) (fg : Buf (Elt F) (fgLoc d))
    (fo : Buf (Elt F) (oLoc d)) :
    (iprop(Transfers.MayWaits (thr d L) (none : HIx 1) O
        ∗ ((wwV).view.loc (thr d L) ↦{q} fw) ∗ ((rwV).view.loc (thr d L) ↦{q} fr) ∗ ((usV).view.loc (thr d L) ↦{q} fu)
        ∗ ((fgS).view.loc (thr d L) ↦{fullShare} (fgBlk L).view.read (Elt F) fg)
        ∗ (∃ f, (usS).view.loc (thr d L) ↦{fullShare} f) ∗ (∃ f, (wwS).view.loc (thr d L) ↦{fullShare} f)
        ∗ (∃ f, (rwS).view.loc (thr d L) ↦{fullShare} f) ∗ (∃ f, (oS).view.loc (thr d L) ↦{fullShare} f)
        ∗ semVal (thr d L, SemLoc.dma cc0_scoped1.sem) 0 ∗ semVal (thr d L, SemLoc.dma cc0_scoped2.sem) 0
        ∗ semVal (thr d L, SemLoc.dma cc0_scoped3.sem) 0 ∗ semVal (thr d L, SemLoc.dma cc0_scoped4.sem) 0
        ∗ ((oRow L k).view.loc (thr d L) ↦[(oRow L k).view.set]{fullShare} fo)
        ∗ owes (thr d L) O Ws) : sProp 𝕄)
      ⊢ wp frame (wpE (defs₀ (F := F)) 𝒱₀ (thr d L) none) Set.univ
          (k0_t1_body L wwV (Memref.isWhole_whole _) rwV (Memref.isWhole_whole _) usV (Memref.isWhole_whole _) fgV (Memref.isWhole_whole _)
            oV (Memref.isWhole_whole _) fgS (Memref.isWhole_whole _) usS (Memref.isWhole_whole _) wwS (Memref.isWhole_whole _)
            rwS (Memref.isWhole_whole _) oS (Memref.isWhole_whole _) cc0_scoped0 cc0_scoped1 cc0_scoped2 cc0_scoped3 cc0_scoped4 v2 k ⟨⟩)
          fun _ => iprop(Transfers.MayWaits (thr d L) (none : HIx 1) O
            ∗ ((wwV).view.loc (thr d L) ↦{q} fw) ∗ ((rwV).view.loc (thr d L) ↦{q} fr) ∗ ((usV).view.loc (thr d L) ↦{q} fu)
            ∗ ((fgS).view.loc (thr d L) ↦{fullShare} (fgBlk L).view.read (Elt F) fg)
            ∗ (∃ f, (usS).view.loc (thr d L) ↦{fullShare} f) ∗ (∃ f, (wwS).view.loc (thr d L) ↦{fullShare} f)
            ∗ (∃ f, (rwS).view.loc (thr d L) ↦{fullShare} f) ∗ (∃ f, (oS).view.loc (thr d L) ↦{fullShare} f)
            ∗ semVal (thr d L, SemLoc.dma cc0_scoped1.sem) 0 ∗ semVal (thr d L, SemLoc.dma cc0_scoped2.sem) 0
            ∗ semVal (thr d L, SemLoc.dma cc0_scoped3.sem) 0 ∗ semVal (thr d L, SemLoc.dma cc0_scoped4.sem) 0
            ∗ ((oRow L k).view.loc (thr d L) ↦[(oRow L k).view.set]{fullShare} outAt fw fr fu fg)
            ∗ ∃ W', ⌜∀ p ∈ W', p ∈ Ws ∨ p.2 = none⌝ ∗ owes (thr d L) O W') := by
  unfold k0_t1_body
  rw [k0_part1_eq_skeleton]; unfold k0_part1_skel
  iintro ⟨Hmw, Hw, Hr, Hu, Hg, ⟨%f1, H1⟩, ⟨%f2, H2⟩, ⟨%f3, H3⟩, ⟨%f4, H4⟩, Hs1, Hs2, Hs3, Hs4, Ho, HO⟩
  sl_exec
  sl_for (innerInv d L ((fgBlk L).view.read (Elt F) fg) k ((usRow L k).view.read (Elt F) fu) ((wwRow L k).view.read (Elt F) fw)
    ((rwRow L k).view.read (Elt F) fr)) $$ [H1 H2 H3 H4]
  case region =>
    intro t _
    unfold innerInv
    iintro ⟨H1, H2, H3, %f, %hf, H4⟩
    sl_exec
    sl_step
    isplitl [H1]; · iexact H1
    isplitl [H2]; · iexact H2
    isplitl [H3]; · iexact H3
    iexists _
    isplitr
    · ipureintro
      exact column_step _ k _ _ _ f t hf
    · iexact H4
  · unfold innerInv
    isplitl [H1]
    · iapply (Entails.of_eq (congrArg _ (View.write_whole_univ cc0_scratch1 f1 _)))
      iexact H1
    isplitl [H2]
    · iapply (Entails.of_eq (congrArg _ (View.write_whole_univ cc0_scratch2 f2 _)))
      iexact H2
    isplitl [H3]
    · iapply (Entails.of_eq (congrArg _ (View.write_whole_univ cc0_scratch3 f3 _)))
      iexact H3
    iexists f4
    isplitr
    · ipureintro
      intro y hy
      exact absurd hy (Nat.not_lt_zero _)
    · iexact H4
  unfold innerInv
  iintro %acc ⟨H1, H2, H3, %f, %hf, H4⟩
  sl_exec
  sl_step
  isplitl [Hmw]; · iexact Hmw
  isplitl [Hw]; · iexact Hw
  isplitl [Hr]; · iexact Hr
  isplitl [Hu]; · iexact Hu
  isplitl [Hg]; · iexact Hg
  isplitl [H1]; · iexists _; iexact H1
  isplitl [H2]; · iexists _; iexact H2
  isplitl [H3]; · iexists _; iexact H3
  isplitl [H4]; · iexists _; iexact H4
  isplitl [Hs1]; · iexact Hs1
  isplitl [Hs2]; · iexact Hs2
  isplitl [Hs3]; · iexact Hs3
  isplitl [Hs4]; · iexact Hs4
  isplitl [Ho]
  · iapply (Entails.of_eq (pointsTo_congr (row_written L k fw fu fr fg fo f fun y => hf y (show (y 0).val < 16 * 512 from (y 0).isLt))))
    iexact Ho
  iexists _
  isplitr
  rotate_left
  · iexact HO
  · ipureintro
    intro p hp
    simp only [Finset.mem_insert] at hp
    rcases hp with hp | hp | hp | hp | hp
    · exact .inr (hp ▸ rfl)
    · exact .inr (hp ▸ rfl)
    · exact .inr (hp ▸ rfl)
    · exact .inr (hp ▸ rfl)
    · exact .inl hp

/-- The row loop's invariant: the result's rows below `k` finished, the inputs' shares, the gates' block, the scratch
    buffers and the semaphores back at rest. -/
def rowInv (O : CellTallies nD τ sig (HIx 1)) (Ws : Waits sig (HIx 1)) (q : PosShare TreeShare) (fw : Buf (Elt F) (wwLoc d)) (fr : Buf (Elt F) (rwLoc d))
    (fu : Buf (Elt F) (usLoc d)) (fg : Buf (Elt F) (fgLoc d)) (fo : Buf (Elt F) (oLoc d)) (k : Nat) (_ : PUnit) : sProp 𝕄 :=
  iprop(Transfers.MayWaits (thr d L) (none : HIx 1) O
    ∗ ((wwV).view.loc (thr d L) ↦{q} fw) ∗ ((rwV).view.loc (thr d L) ↦{q} fr) ∗ ((usV).view.loc (thr d L) ↦{q} fu)
    ∗ ((fgS).view.loc (thr d L) ↦{fullShare} (fgBlk L).view.read (Elt F) fg)
    ∗ (∃ f, (usS).view.loc (thr d L) ↦{fullShare} f) ∗ (∃ f, (wwS).view.loc (thr d L) ↦{fullShare} f)
    ∗ (∃ f, (rwS).view.loc (thr d L) ↦{fullShare} f) ∗ (∃ f, (oS).view.loc (thr d L) ↦{fullShare} f)
    ∗ semVal (thr d L, SemLoc.dma cc0_scoped1.sem) 0 ∗ semVal (thr d L, SemLoc.dma cc0_scoped2.sem) 0
    ∗ semVal (thr d L, SemLoc.dma cc0_scoped3.sem) 0 ∗ semVal (thr d L, SemLoc.dma cc0_scoped4.sem) 0
    ∗ ((oV).view.loc (thr d L) ↦[tileSet L]{fullShare} mix L fo (outAt fw fr fu fg) k)
    ∗ ∃ W', ⌜∀ p ∈ W', p ∈ Ws ∨ p.2 = none⌝ ∗ owes (thr d L) O W')

set_option maxRecDepth 16384 in
/-- A vector subcore's body: from a share of each input and its rows of the result, it leaves those rows at the stated
    values and gives everything else back. -/
theorem tile_body (O : CellTallies nD τ sig (HIx 1)) (Ws : Waits sig (HIx 1)) (hO : ∀ g, O g none = 0)
    (q : PosShare TreeShare) (fw : Buf (Elt F) (wwLoc d)) (fr : Buf (Elt F) (rwLoc d)) (fu : Buf (Elt F) (usLoc d)) (fg : Buf (Elt F) (fgLoc d))
    (fo : Buf (Elt F) (oLoc d)) :
    (iprop(levAts (K (F := F)).L (K (F := F)).lev ∗ emp
        ∗ (((wwV).view.loc (thr d L) ↦{q} fw) ∗ ((rwV).view.loc (thr d L) ↦{q} fr) ∗ ((usV).view.loc (thr d L) ↦{q} fu) ∗ ((fgV).view.loc (thr d L) ↦{q} fg) ∗ (oV).view.loc (thr d L) ↦[tileSet L]{fullShare} fo)
        ∗ scopedBufs (thr d L) ∗ scopedSems0 (thr d L) ∗ owes (thr d L) O Ws) : sProp 𝕄)
      ⊢ wp frame (wpE (defs₀ (F := F)) 𝒱₀ (thr d L) none) Set.univ
          (cc0_body L wwV (Memref.isWhole_whole _) rwV (Memref.isWhole_whole _) usV (Memref.isWhole_whole _) fgV (Memref.isWhole_whole _)
            oV (Memref.isWhole_whole _) fgS (Memref.isWhole_whole _) usS (Memref.isWhole_whole _) wwS (Memref.isWhole_whole _)
            rwS (Memref.isWhole_whole _) oS (Memref.isWhole_whole _) cc0_scoped0 cc0_scoped1 cc0_scoped2 cc0_scoped3 cc0_scoped4)
          fun _ => iprop((((wwV).view.loc (thr d L) ↦{q} fw) ∗ ((rwV).view.loc (thr d L) ↦{q} fr) ∗ ((usV).view.loc (thr d L) ↦{q} fu) ∗ ((fgV).view.loc (thr d L) ↦{q} fg)
              ∗ (oV).view.loc (thr d L) ↦[tileSet L]{fullShare} outAt fw fr fu fg)
            ∗ scopedBufs (thr d L) ∗ scopedSems0 (thr d L)
            ∗ ∃ W', ⌜∀ p ∈ W', p ∈ Ws ∨ p.2 = none⌝ ∗ owes (thr d L) O W') := by
  obtain ⟨RS, hRS⟩ := ownSems0_split (F := F) d L
  obtain ⟨RB, hRB⟩ := ownBufs_split (F := F) d L
  rw [cc0_body_eq_skeleton]; unfold cc0_body_skel
  rw [(K (F := F)).scopedBufs_V facts d (cV L) (jV L), SparseCore.Cfg.scopedSems0_V (Val := Elt F) d (cV L) (jV L), hRS, hRB]
  iintro ⟨#Hlv, Hemp, ⟨Hw, Hr, Hu, Hfg, Ho⟩, ⟨⟨%f0, H0⟩, H1, H2, H3, H4, HRB⟩, ⟨Hs0, Hs1, Hs2, Hs3, Hs4, HRS⟩, HO⟩
  ihave Hmw := ((K (F := F)).mayWaits_none (thr := thr d L) hO) $$ Hlv
  sl_exec
  sl_for (rowInv d L O Ws q fw fr fu fg fo) $$ [Hmw Hw Hr Hu H0 H1 H2 H3 H4 Hs1 Hs2 Hs3 Hs4 Ho HO]
  case region =>
    intro k _
    unfold rowInv
    iintro ⟨Hmw, Hw, Hr, Hu, Hg, H1, H2, H3, H4, Hs1, Hs2, Hs3, Hs4, Ho, %W1, %hW1, HO⟩
    ihave Ho := (pointsTo_split_subset (oRow_sub L k)).1 $$ Ho
    icases Ho with ⟨Hrow, Hrest⟩
    iapply (wp_wand_r frame (wpE (defs₀ (F := F)) 𝒱₀ (thr d L) none) Set.univ)
    isplitr [Hrest]
    · iapply (trip d L O W1 k _ q fw fr fu fg _)
      isplitl [Hmw]; · iexact Hmw
      isplitl [Hw]; · iexact Hw
      isplitl [Hr]; · iexact Hr
      isplitl [Hu]; · iexact Hu
      isplitl [Hg]; · iexact Hg
      isplitl [H1]; · iexact H1
      isplitl [H2]; · iexact H2
      isplitl [H3]; · iexact H3
      isplitl [H4]; · iexact H4
      isplitl [Hs1]; · iexact Hs1
      isplitl [Hs2]; · iexact Hs2
      isplitl [Hs3]; · iexact Hs3
      isplitl [Hs4]; · iexact Hs4
      isplitl [Hrow]; · iexact Hrow
      iexact HO
    iintro %a ⟨Hmw, Hw, Hr, Hu, Hg, H1, H2, H3, H4, Hs1, Hs2, Hs3, Hs4, Hrow, %W2, %hW2, HO⟩
    ihave Hrow := (Entails.of_eq (pointsTo_congr (mix_row L fo (outAt fw fr fu fg) k))) $$ Hrow
    ihave Hrest := (Entails.of_eq (pointsTo_congr (mix_rest L fo (outAt fw fr fu fg) k))) $$ Hrest
    isplitl [Hmw]; · iexact Hmw
    isplitl [Hw]; · iexact Hw
    isplitl [Hr]; · iexact Hr
    isplitl [Hu]; · iexact Hu
    isplitl [Hg]; · iexact Hg
    isplitl [H1]; · iexact H1
    isplitl [H2]; · iexact H2
    isplitl [H3]; · iexact H3
    isplitl [H4]; · iexact H4
    isplitl [Hs1]; · iexact Hs1
    isplitl [Hs2]; · iexact Hs2
    isplitl [Hs3]; · iexact Hs3
    isplitl [Hs4]; · iexact Hs4
    isplitl [Hrow Hrest]
    · iapply (pointsTo_split_subset (oRow_sub L k)).2
      isplitl [Hrow]
      · iexact Hrow
      · iexact Hrest
    iexists W2
    isplitr
    · ipureintro
      exact fun p hp => (hW2 p hp).elim (hW1 p) .inr
    · iexact HO
  · unfold rowInv
    isplitl [Hmw]; · iexact Hmw
    isplitl [Hw]; · iexact Hw
    isplitl [Hr]; · iexact Hr
    isplitl [Hu]; · iexact Hu
    isplitl [H0]
    · iapply (Entails.of_eq (congrArg _ (View.write_whole_univ cc0_scratch0 f0 _)))
      iexact H0
    isplitl [H1]; · iexact H1
    isplitl [H2]; · iexact H2
    isplitl [H3]; · iexact H3
    isplitl [H4]; · iexact H4
    isplitl [Hs1]; · iexact Hs1
    isplitl [Hs2]; · iexact Hs2
    isplitl [Hs3]; · iexact Hs3
    isplitl [Hs4]; · iexact Hs4
    isplitl [Ho]
    · iapply (Entails.of_eq (pointsTo_congr (mix_zero L fo (outAt fw fr fu fg))))
      iexact Ho
    iexists _
    isplitr
    rotate_left
    · iexact HO
    · ipureintro
      intro p hp
      rcases Finset.mem_insert.mp hp with hp | hp
      · exact .inr (hp ▸ rfl)
      · exact .inl hp
  unfold rowInv
  iintro %acc ⟨-, Hw, Hr, Hu, Hg, H1, H2, H3, H4, Hs1, Hs2, Hs3, Hs4, Ho, HW⟩
  sl_exec
  sl_step
  isplitl [Hw Hr Hu Hfg Ho]
  · isplitl [Hw]; · iexact Hw
    isplitl [Hr]; · iexact Hr
    isplitl [Hu]; · iexact Hu
    isplitl [Hfg]; · iexact Hfg
    iapply (Entails.of_eq (pointsTo_congr (mix_done L fo (outAt fw fr fu fg) (Scf.trips k0_t1_loop.lb k0_t1_loop.ub k0_t1_loop.st) rfl)))
    iexact Ho
  isplitl [Hg H1 H2 H3 H4 HRB]
  · isplitl [Hg]; · iexists _; iexact Hg
    isplitl [H1]; · iexact H1
    isplitl [H2]; · iexact H2
    isplitl [H3]; · iexact H3
    isplitl [H4]; · iexact H4
    iexact HRB
  isplitl [Hs0 Hs1 Hs2 Hs3 Hs4 HRS]
  · isplitl [Hs0]; · iexact Hs0
    isplitl [Hs1]; · iexact Hs1
    isplitl [Hs2]; · iexact Hs2
    isplitl [Hs3]; · iexact Hs3
    isplitl [Hs4]; · iexact Hs4
    iexact HRS
  iexact HW

end Cert.Proof.KernelIdeal

end
-- ==== Proof.LaunchIdeal.lean ====
/-
  The launch: what the call takes and hands back, how the result's rows and the shares of the inputs are dealt to the two
  SparseCores and their subcores, @main on the TensorCore, and the run of the whole program.
-/
module

public import proofs.«01_k».proof.Proof.TileIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}
local notation "𝕄" => MT nD τ sig (HIx 1) (Elt F) ℕ UU ℕ

variable [FloatOps F] (m : (ℓ : Loc nD τ sig) → Buf (Elt F) ℓ) (ρ : Dev nD → PrngReg)

/-! ## What the call's operands hold -/

/-- The write weights as the call takes them: the argument with its unit axis dropped. -/
def wwA (d : Dev nD) : Buf (Elt F) (wwLoc d) :=
  shapeCast S1024x8192 (m ((SparseCore.T d).loc main_arg1) : Vec F S1024x1x8192 .f32) shapeCasts_S1024x1x8192_S1024x8192

/-- The gates as the call takes them: each spread over sixteen lanes. -/
def fgA (d : Dev nD) : Buf (Elt F) (fgLoc d) :=
  broadcastInDim S1024x4x16 ![0, 1, 2] bcast_S1024x4x1_S1024x4x16_0_1_2
    (broadcastInDim S1024x4x1 ![0, 1] bcast_S1024x4_S1024x4x1_0_1 (m ((SparseCore.T d).loc main_arg4) : Vec F S1024x4 .f32))

/-- What the program leaves in the result. -/
def outA (d : Dev nD) : Buf (Elt F) (oLoc d) := outAt (wwA m d) (m (rwLoc d)) (m (usLoc d)) (fgA m d)

/-! ## The result's rows and the inputs' shares -/

/-- The rows of vector subcore `i` of SparseCore `c`; the rows of SparseCore `c`. -/
def tset (c i : Nat) : Finset S1024x8192.Idx := Finset.univ.filter fun x => 64 * i + 32 * c ≤ (x 0).val ∧ (x 0).val < 64 * i + 32 * c + 32
def cset (c : Fin 2) : Finset S1024x8192.Idx := Finset.univ.biUnion fun i : Fin 16 => tset c.val i.val

/-- Two different subcores have no row in common. -/
theorem tset_disjoint {c i c' i' : Nat} (hc : c < 2) (hc' : c' < 2) (h : i ≠ i' ∨ c ≠ c') : Disjoint (tset c i) (tset c' i') :=
  Finset.disjoint_left.mpr fun x hx hx' => by
    have a := (Finset.mem_filter.mp hx).2
    have b := (Finset.mem_filter.mp hx').2
    omega

/-- The two SparseCores have no row in common. -/
theorem cset_disjoint : ∀ c ∈ (Finset.univ : Finset (Fin 2)), ∀ c' ∈ (Finset.univ : Finset (Fin 2)), c ≠ c' → Disjoint (cset c) (cset c') :=
  fun c _ c' _ h => Finset.disjoint_left.mpr fun x hx hx' => by
    obtain ⟨i, -, hi⟩ := Finset.mem_biUnion.mp hx
    obtain ⟨i', -, hi'⟩ := Finset.mem_biUnion.mp hx'
    exact Finset.disjoint_left.mp (tset_disjoint c.isLt c'.isLt (.inr fun e => h (Fin.ext e))) hi hi'

/-- The two SparseCores' rows are all the rows. -/
theorem cset_cover : (Finset.univ : Finset (Fin 2)).biUnion cset = Finset.univ := by
  refine Finset.eq_univ_iff_forall.mpr fun x => ?_
  have hx : (x 0).val < 1024 := (x 0).isLt
  refine Finset.mem_biUnion.mpr ⟨⟨(x 0).val / 32 % 2, by omega⟩, Finset.mem_univ _, Finset.mem_biUnion.mpr
    ⟨⟨(x 0).val / 64, by omega⟩, Finset.mem_univ _, Finset.mem_filter.mpr ⟨Finset.mem_univ _, ?_⟩⟩⟩
  show 64 * ((x 0).val / 64) + 32 * ((x 0).val / 32 % 2) ≤ (x 0).val ∧ (x 0).val < 64 * ((x 0).val / 64) + 32 * ((x 0).val / 32 % 2) + 32
  omega

/-- SparseCore `c`'s share of an input, and its subcore `i`'s. -/
abbrev qC (c : Fin 2) : PosShare TreeShare := Transfers.dealOf fullShare Finset.univ c
abbrev qT (c : Fin 2) (i : Fin 16) : PosShare TreeShare := Transfers.dealOf (qC c) Finset.univ i

/-- The inputs at a share `q` and rows `S` of the result at contents `f`: what a SparseCore or a subcore holds. -/
abbrev hold (d : Dev nD) (q : PosShare TreeShare) (S : Finset S1024x8192.Idx) (f : Buf (Elt F) (oLoc d)) : sProp 𝕄 :=
  iprop((wwLoc d ↦{q} wwA m d) ∗ (rwLoc d ↦{q} m (rwLoc d)) ∗ (usLoc d ↦{q} m (usLoc d)) ∗ (fgLoc d ↦{q} fgA m d) ∗ oLoc d ↦[S]{fullShare} f)

/-- What the whole program holds is what the two SparseCores hold; -/
theorem hold_cores (d : Dev nD) (f : Buf (Elt F) (oLoc d)) :
    hold m d fullShare Finset.univ f = bigSep Finset.univ fun c : Fin 2 => hold m d (qC c) (cset c) f := by
  unfold hold
  rw [bigSep_sep', bigSep_sep', bigSep_sep', bigSep_sep']
  rw [Transfers.pointsTo_deal (ℓ := wwLoc d) (Finset.univ : Finset (Fin 2)) ⟨0, Finset.mem_univ _⟩ fullShare,
    Transfers.pointsTo_deal (ℓ := rwLoc d) (Finset.univ : Finset (Fin 2)) ⟨0, Finset.mem_univ _⟩ fullShare,
    Transfers.pointsTo_deal (ℓ := usLoc d) (Finset.univ : Finset (Fin 2)) ⟨0, Finset.mem_univ _⟩ fullShare,
    Transfers.pointsTo_deal (ℓ := fgLoc d) (Finset.univ : Finset (Fin 2)) ⟨0, Finset.mem_univ _⟩ fullShare,
    ← pointsTo_biUnion Finset.univ (ℓ := oLoc d) cset cset_disjoint, cset_cover]

/-- what a SparseCore holds is what its sixteen subcores hold. -/
theorem hold_tiles (d : Dev nD) (c : Fin 2) (f : Buf (Elt F) (oLoc d)) :
    hold m d (qC c) (cset c) f = bigSep Finset.univ fun i : Fin 16 => hold m d (qT c i) (tset c.val i.val) f := by
  unfold hold
  rw [bigSep_sep', bigSep_sep', bigSep_sep', bigSep_sep']
  rw [Transfers.pointsTo_deal (ℓ := wwLoc d) (Finset.univ : Finset (Fin 16)) ⟨0, Finset.mem_univ _⟩ (qC c),
    Transfers.pointsTo_deal (ℓ := rwLoc d) (Finset.univ : Finset (Fin 16)) ⟨0, Finset.mem_univ _⟩ (qC c),
    Transfers.pointsTo_deal (ℓ := usLoc d) (Finset.univ : Finset (Fin 16)) ⟨0, Finset.mem_univ _⟩ (qC c),
    Transfers.pointsTo_deal (ℓ := fgLoc d) (Finset.univ : Finset (Fin 16)) ⟨0, Finset.mem_univ _⟩ (qC c),
    ← pointsTo_biUnion Finset.univ (ℓ := oLoc d) (fun i : Fin 16 => tset c.val i.val)
      (fun i _ i' _ h => tset_disjoint c.isLt c.isLt (.inl fun e => h (Fin.ext e)))]
  rfl

/-! ## What the handshakes carry -/

/-- The call runs on two SparseCores. -/
theorem nCore_zero : (K (F := F)).nCore 0 = 2 := rfl
/-- The call runs on sixteen subcores of each. -/
theorem nSub_zero : (K (F := F)).nSub 0 = 16 := rfl

/-- The call takes the inputs and the result and brings them back, the result at the stated values. -/
def P : (K (F := F)).Pay (nD := nD) (Val := Elt F) (Name := ℕ) (U := UU) where
  st := fun q d c => match q with | 0 => hold m d (qC (Fin.cast nCore_zero c)) (cset (Fin.cast nCore_zero c)) (m (oLoc d))
  dn := fun q d c => match q with | 0 => hold m d (qC (Fin.cast nCore_zero c)) (cset (Fin.cast nCore_zero c)) (outA m d)
  go := fun q d c i => match q with
    | 0 => hold m d (qT (Fin.cast nCore_zero c) (Fin.cast nSub_zero i)) (tset (Fin.cast nCore_zero c).val (Fin.cast nSub_zero i).val) (m (oLoc d))
  td := fun q d c i => match q with
    | 0 => hold m d (qT (Fin.cast nCore_zero c) (Fin.cast nSub_zero i)) (tset (Fin.cast nCore_zero c).val (Fin.cast nSub_zero i).val) (outA m d)
  x := fun _ _ => iprop(emp)

instance P_storable : (P (F := F) m).IsStorable where
  st q d c := match q with
    | 0 => (inferInstance : BI.Storable (upEmb : UEmb _ 𝕄) (hold m d (qC (Fin.cast nCore_zero c)) (cset (Fin.cast nCore_zero c)) (m (oLoc d))))
  dn q d c := match q with
    | 0 => (inferInstance : BI.Storable (upEmb : UEmb _ 𝕄) (hold m d (qC (Fin.cast nCore_zero c)) (cset (Fin.cast nCore_zero c)) (outA m d)))
  go q d c i := match q with
    | 0 => (inferInstance : BI.Storable (upEmb : UEmb _ 𝕄)
        (hold m d (qT (Fin.cast nCore_zero c) (Fin.cast nSub_zero i)) (tset (Fin.cast nCore_zero c).val (Fin.cast nSub_zero i).val) (m (oLoc d))))
  td q d c i := match q with
    | 0 => (inferInstance : BI.Storable (upEmb : UEmb _ 𝕄)
        (hold m d (qT (Fin.cast nCore_zero c) (Fin.cast nSub_zero i)) (tset (Fin.cast nCore_zero c).val (Fin.cast nSub_zero i).val) (outA m d)))

/-! ## The launch theorem's obligations -/

/-- The grid point of a SparseCore and a vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs: the body at its grid point, on the call's arrays and its own scratch. -/
theorem defs₀_vector (c : Fin τ.nSC) (s : Fin τ.nSub) :
    defs₀ (F := F) (.scVector c s) 0 ()
      = SparseCore.onTile hcore0 hsub0 (fun c s => cc0_body (coordsV c s)
          wwV (Memref.isWhole_whole _) rwV (Memref.isWhole_whole _) usV (Memref.isWhole_whole _) fgV (Memref.isWhole_whole _)
          oV (Memref.isWhole_whole _) fgS (Memref.isWhole_whole _) usS (Memref.isWhole_whole _) wwS (Memref.isWhole_whole _)
          rwS (Memref.isWhole_whole _) oS (Memref.isWhole_whole _) cc0_scoped0 cc0_scoped1 cc0_scoped2 cc0_scoped3 cc0_scoped4) ⟨⟩ c s := rfl

/-- A task that waited only on its own semaphores meets the launch's weaker bound on its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every vector subcore's task meets what the launch asks of it. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) O W hO (qT (Fin.cast nCore_zero c) (Fin.cast nSub_zero i)) (wwA m d) (m (rwLoc d)) (m (usLoc d))
    (fgA m d) (m (oLoc d))).trans (wp_mono frame _ _ fun _ => obl_post)

/-- A SparseCore's hold is dealt to its subcores and collected again. -/
theorem vecSplit : (K (F := F)).VecSplit' (P m) 0 := by
  intro d c
  show hold m d (qC (Fin.cast nCore_zero c)) (cset (Fin.cast nCore_zero c)) (m (oLoc d)) ⊢ |={Set.univ}=> iprop(
      (bigSep Finset.univ fun i : Fin ((K (F := F)).nSub 0) =>
        hold m d (qT (Fin.cast nCore_zero c) (Fin.cast nSub_zero i)) (tset (Fin.cast nCore_zero c).val (Fin.cast nSub_zero i).val) (m (oLoc d)))
      ∗ ((bigSep Finset.univ fun i : Fin ((K (F := F)).nSub 0) =>
        hold m d (qT (Fin.cast nCore_zero c) (Fin.cast nSub_zero i)) (tset (Fin.cast nCore_zero c).val (Fin.cast nSub_zero i).val) (outA m d))
          -∗ hold m d (qC (Fin.cast nCore_zero c)) (cset (Fin.cast nCore_zero c)) (outA m d)))
  iintro H
  ihave H := (Entails.of_eq (hold_tiles m d (Fin.cast nCore_zero c) (m (oLoc d)))) $$ H
  imodintro
  isplitl [H]; · iexact H
  iintro H
  iapply (Entails.of_eq (hold_tiles m d (Fin.cast nCore_zero c) (outA m d)).symm)
  iexact H

/-! ## The launch element of the ghost state -/

def u₀ : UU := (initOf (K (F := F)).hsCells (K (F := F)).hsToks, 1)

/-- A family of nothing is nothing. -/
theorem bigSep_emp' {I : Type} (s : Finset I) : (bigSep s fun _ => iprop(emp)) = (iprop(emp) : sProp 𝕄) := bigSep_emp_const s

/-- The launch element gives the handshakes' rounds; the tasks need nothing more of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

/-- The three operations before the call: the unit axis dropped, and the gates spread in two steps. -/
abbrev opW : HloOp τ sig (Elt F) := StableHlo.reshape main_arg1 main_v0 (rfl : (.f32 : EltTy) = .f32) shapeCasts_S1024x1x8192_S1024x8192
abbrev opG : HloOp τ sig (Elt F) := StableHlo.unary main_arg4 main_v1
  (broadcastInDim S1024x4x1 ![0, 1] bcast_S1024x4_S1024x4x1_0_1 : (⟨S1024x4, .f32⟩ : BufTy).Contents (Elt F) → (⟨S1024x4x1, .f32⟩ : BufTy).Contents (Elt F))
abbrev opL : HloOp τ sig (Elt F) := StableHlo.unary main_v1 main_v2
  (broadcastInDim S1024x4x16 ![0, 1, 2] bcast_S1024x4x1_S1024x4x16_0_1_2 : (⟨S1024x4x1, .f32⟩ : BufTy).Contents (Elt F) → (⟨S1024x4x16, .f32⟩ : BufTy).Contents (Elt F))

/-- The TensorCore's arrays. -/
abbrev S9 : Finset (DevRef τ sig) := {a0', a1', a2', a3', a4', v0', v1', v2', v3'}

/-- The TensorCore's arrays at a valuation, one by one. -/
theorem held_S9 (d : Dev nD) (W : Valuation τ sig (Elt F)) :
    (held (T d) S9 W : sProp 𝕄) = iprop(((SparseCore.T d).loc main_arg0 ↦{fullShare} W a0') ∗ ((SparseCore.T d).loc main_arg1 ↦{fullShare} W a1')
      ∗ (rwLoc d ↦{fullShare} W a2') ∗ (usLoc d ↦{fullShare} W a3') ∗ ((SparseCore.T d).loc main_arg4 ↦{fullShare} W a4')
      ∗ (wwLoc d ↦{fullShare} W v0') ∗ ((SparseCore.T d).loc main_v1 ↦{fullShare} W v1') ∗ (fgLoc d ↦{fullShare} W v2') ∗ oLoc d ↦{fullShare} W v3') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The TensorCore's arrays at the launch, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (rwLoc d ↦{fullShare} W main_arg2) ∗ (usLoc d ↦{fullShare} W main_arg3) ∗ ((SparseCore.T d).loc main_arg4 ↦{fullShare} W main_arg4)
      ∗ (wwLoc d ↦{fullShare} W main_v0) ∗ ((SparseCore.T d).loc main_v1 ↦{fullShare} W main_v1) ∗ (fgLoc d ↦{fullShare} W main_v2)
      ∗ oLoc d ↦{fullShare} W main_v3) := by
  unfold unscopedBufs
  rw [show (Finset.univ.filter fun b : Ref sig .tc => ¬ b.isScoped)
      = {main_arg0, main_arg1, main_arg2, main_arg3, main_arg4, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation, and the valuation at the call. -/
def V0 (d : Dev nD) : Valuation τ sig (Elt F) := fun b => m (d, b)
def V3 (d : Dev nD) : Valuation τ sig (Elt F) := (opL (F := F)).result ((opG (F := F)).result ((opW (F := F)).result (V0 m d)))

/-- The arrays at the launch are held at the launch valuation. -/
theorem unscoped_held (d : Dev nD) : (unscopedBufs d (fun b => m ((SparseCore.T d).loc b)) : sProp 𝕄) = held (T d) S9 (V0 m d) := by
  rw [unscopedBufs_eq, held_S9]; rfl

/-- An array the three operations do not write is at its launch contents. -/
theorem V3_same (d : Dev nD) (b : Ref sig .tc) (h0 : b ≠ main_v0) (h1 : b ≠ main_v1) (h2 : b ≠ main_v2) :
    V3 m d (Proc.devRef .tc b) = m ((SparseCore.T d).loc b) := by
  unfold V3
  rw [StableHlo.unary_result_ne _ _ _ _ _ _ h2, StableHlo.unary_result_ne _ _ _ _ _ _ h1, StableHlo.reshape_result_ne _ _ _ _ _ _ _ h0]
  rfl

/-- The call's write weights are the argument without its unit axis. -/
theorem V3_ww (d : Dev nD) : V3 m d v0' = wwA m d := by
  unfold V3
  rw [StableHlo.unary_result_ne _ _ _ _ _ _ (by decide), StableHlo.unary_result_ne _ _ _ _ _ _ (by decide), StableHlo.reshape_result]
  rfl

/-- The call's gates are the argument spread over sixteen lanes. -/
theorem V3_fg (d : Dev nD) : V3 m d v2' = fgA m d := by
  unfold V3
  rw [StableHlo.unary_result, StableHlo.unary_result, StableHlo.reshape_result_ne _ _ _ _ _ _ _ (by decide)]
  rfl

/-- What the call takes from the TensorCore. -/
theorem st0_eq (d : Dev nD) : (bigSep Finset.univ fun c : Fin ((K (F := F)).nCore 0) => (P m).st 0 d c) = hold m d fullShare Finset.univ (m (oLoc d)) :=
  (hold_cores m d (m (oLoc d))).symm
/-- What the call brings back to it. -/
theorem dn0_eq (d : Dev nD) : (bigSep Finset.univ fun c : Fin ((K (F := F)).nCore 0) => (P m).dn 0 d c) = hold m d fullShare Finset.univ (outA m d) :=
  (hold_cores m d (outA m d)).symm

/-- The first operation touches the TensorCore's arrays only. -/
theorem hW : (opW (F := F)).bufs ⊆ S9 := show ({a1', v0'} : Finset (DevRef τ sig)) ⊆ S9 by decide
/-- The same of the second. -/
theorem hG : (opG (F := F)).bufs ⊆ S9 := show ({a4', v1'} : Finset (DevRef τ sig)) ⊆ S9 by decide
/-- The same of the third. -/
theorem hL : (opL (F := F)).bufs ⊆ S9 := show ({v1', v2'} : Finset (DevRef τ sig)) ⊆ S9 by decide

/-- What @main leaves the claims: the arguments at their launch contents, the result at its stated value. -/
abbrev FIN (d : Dev nD) : sProp 𝕄 :=
  iprop(((SparseCore.T d).loc main_arg0 ↦{fullShare} m ((SparseCore.T d).loc main_arg0))
    ∗ ((SparseCore.T d).loc main_arg1 ↦{fullShare} m ((SparseCore.T d).loc main_arg1))
    ∗ (rwLoc d ↦{fullShare} m (rwLoc d)) ∗ (usLoc d ↦{fullShare} m (usLoc d))
    ∗ ((SparseCore.T d).loc main_arg4 ↦{fullShare} m ((SparseCore.T d).loc main_arg4)) ∗ oLoc d ↦{fullShare} outA m d)

/-- The arrays before the call. -/
theorem held_V3 (d : Dev nD) :
    (held (T d) S9 ((opL (F := F)).result ((opG (F := F)).result ((opW (F := F)).result (V0 m d)))) : sProp 𝕄)
      = iprop(((SparseCore.T d).loc main_arg0 ↦{fullShare} m ((SparseCore.T d).loc main_arg0))
        ∗ ((SparseCore.T d).loc main_arg1 ↦{fullShare} m ((SparseCore.T d).loc main_arg1))
        ∗ (rwLoc d ↦{fullShare} m (rwLoc d)) ∗ (usLoc d ↦{fullShare} m (usLoc d))
        ∗ ((SparseCore.T d).loc main_arg4 ↦{fullShare} m ((SparseCore.T d).loc main_arg4))
        ∗ (wwLoc d ↦{fullShare} wwA m d) ∗ ((SparseCore.T d).loc main_v1 ↦{fullShare} V3 m d v1') ∗ (fgLoc d ↦{fullShare} fgA m d)
        ∗ oLoc d ↦{fullShare} m (oLoc d)) := by
  show held (SparseCore.T d) S9 (V3 m d) = _
  rw [held_S9, V3_ww, V3_fg, V3_same m d main_arg0 (by decide) (by decide) (by decide), V3_same m d main_arg1 (by decide) (by decide) (by decide),
    V3_same m d main_arg2 (by decide) (by decide) (by decide), V3_same m d main_arg3 (by decide) (by decide) (by decide),
    V3_same m d main_arg4 (by decide) (by decide) (by decide), V3_same m d main_v3 (by decide) (by decide) (by decide)]

/-- @main on a device's TensorCore: the three operations, then the call; the arguments kept, the result at its value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opW) (S := S9) hW (V := V0 m d)) $$ [Hb Hheld]
  · isplitl [Hb] <;> iassumption
  iintro ⟨Hb, Hheld⟩
  rw [wp_ret]; imodintro
  iapply (wp_hlo_within 𝒱 (SparseCore.T d) none Set.univ (op := opG) (S := S9) hG (V := (opW (F := F)).result (V0 m d))) $$ [Hb Hheld]
  · isplitl [Hb] <;> iassumption
  iintro ⟨Hb, Hheld⟩
  rw [wp_ret]; imodintro
  iapply (wp_hlo_within 𝒱 (SparseCore.T d) none Set.univ (op := opL) (S := S9) hL (V := (opG (F := F)).result ((opW (F := F)).result (V0 m d)))) $$ [Hb Hheld]
  · isplitl [Hb] <;> iassumption
  iintro ⟨Hb, Hheld⟩
  rw [wp_ret]; imodintro
  ihave Hh := (Entails.of_eq (held_V3 (F := F) m d)) $$ Hheld
  icases Hh with ⟨H0, H1, H2, H3, H4, Hw, -, Hg, Ho⟩
  iapply ((K (F := F)).wp_run (D (F := F)) 𝒱 (EH := EH) (P := P m) κ d 0) $$ [Hst H0 H1 H2 H3 H4 Hw Hg Ho Hb Hts]
  isplitr; · iexact Hctx
  isplitl [Hst]; · iexact Hst
  isplitl [H2 H3 Hw Hg Ho]
  · rw [st0_eq]
    isplitl [Hw]; · iexact Hw
    isplitl [H2]; · iexact H2
    isplitl [H3]; · iexact H3
    isplitl [Hg]; · iexact Hg
    iexact Ho
  iintro ⟨Hst, Hdn⟩
  ihave Hdn' := (Entails.of_eq (dn0_eq m d)) $$ Hdn
  icases Hdn' with ⟨-, H2, H3, -, Ho⟩
  imodintro
  isplitl [Hst]; · iexact Hst
  isplitr [Hb Hts]
  · isplitl [H0]; · iexact H0
    isplitl [H1]; · iexact H1
    isplitl [H2]; · iexact H2
    isplitl [H3]; · iexact H3
    isplitl [H4]; · iexact H4
    iexact Ho
  isplitl [Hb] <;> iassumption

/-- What the claims read of a device's final state. -/
def fq (d : Dev nD) (s' : Phys nD τ sig (Elt F)) : Prop :=
  s'.mem.mem (oLoc d) = outA m d
    ∧ s'.mem.mem ((SparseCore.T d).loc main_arg0) = m ((SparseCore.T d).loc main_arg0)
    ∧ s'.mem.mem ((SparseCore.T d).loc main_arg1) = m ((SparseCore.T d).loc main_arg1)
    ∧ s'.mem.mem (rwLoc d) = m (rwLoc d) ∧ s'.mem.mem (usLoc d) = m (usLoc d)
    ∧ s'.mem.mem ((SparseCore.T d).loc main_arg4) = m ((SparseCore.T d).loc main_arg4)

/-- An array held whole reads in the final state as held. -/
theorem read_held {ℓ : Loc nD τ sig} {f : Buf (Elt F) ℓ} (s' : Phys nD τ sig (Elt F)) :
    (iprop(SI s' ∗ ℓ ↦{fullShare} f) : sProp 𝕄) ⊢ iprop(⌜s'.mem.mem ℓ = f⌝ ∗ SI s') := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

/-- What @main leaves says what the claims read. -/
theorem hfin (d : Dev nD) (s' : Phys nD τ sig (Elt F)) : iprop(FIN m d ∗ SI s') ⊢ (⌜fq m d s'⌝ : sProp 𝕄) := by
  iintro ⟨⟨H0, H1, H2, H3, H4, Ho⟩, HSI⟩
  ihave H := (read_held s') $$ [HSI H0]
  · isplitl [HSI] <;> iassumption
  icases H with ⟨%h0, HSI⟩
  ihave H := (read_held s') $$ [HSI H1]
  · isplitl [HSI] <;> iassumption
  icases H with ⟨%h1, HSI⟩
  ihave H := (read_held s') $$ [HSI H2]
  · isplitl [HSI] <;> iassumption
  icases H with ⟨%h2, HSI⟩
  ihave H := (read_held s') $$ [HSI H3]
  · isplitl [HSI] <;> iassumption
  icases H with ⟨%h3, HSI⟩
  ihave H := (read_held s') $$ [HSI H4]
  · isplitl [HSI] <;> iassumption
  icases H with ⟨%h4, HSI⟩
  ihave H := (read_held s') $$ [HSI Ho]
  · isplitl [HSI] <;> iassumption
  icases H with ⟨%ho, -⟩
  ipureintro; exact ⟨ho, h0, h1, h2, h3, h4⟩

/-! ## The program's run -/

/-- The whole program's postcondition. -/
def QC : PUnit × MemSt nD τ sig (Elt F) → Prop := fun r => (∀ c : Dev nD,
  r.2.mem (oLoc c) = outA m c
    ∧ r.2.mem ((SparseCore.T c).loc main_arg0) = m ((SparseCore.T c).loc main_arg0)
    ∧ r.2.mem ((SparseCore.T c).loc main_arg1) = m ((SparseCore.T c).loc main_arg1)
    ∧ r.2.mem (rwLoc c) = m (rwLoc c) ∧ r.2.mem (usLoc c) = m (usLoc c)
    ∧ r.2.mem ((SparseCore.T c).loc main_arg4) = m ((SparseCore.T c).loc main_arg4)) ∧ r.2.sem = fun _ => 0

/-- The program runs to its end, with the arguments unchanged, the result at its stated value and every semaphore at zero. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Math.lean ====
/-
  The reference's result over the extended reals: its composed term read at one index, and that it is the kernel's value
  there. Two facts of arithmetic are used: `1 - (1 - w) = w`, and that products may be regrouped and exchanged.
-/
module

public import proofs.«01_k».proof.Proof.Spec
public import proofs.«01_k».proof.Proof.Gen.ReferenceIdeal.Run
public import Idealize.ShloMosaic.Lib.Pipeline.Value
public import Idealize.ShloMosaic.Lib.Pointwise
public import Idealize.ShloMosaic.Lib.IdealHost

@[expose] public section

noncomputable section

namespace Cert.Proof.Reference

open Cert.ReferenceIdeal Cert.ReferenceIdeal.Gen
open Idealize.ShloMosaic hiding ix2 ix3
open Idealize.ShloMosaic.ValueIdx Idealize.SL.Sem

/-! ## Arithmetic -/

/-- One minus one minus an extended real is that extended real, the infinities included. -/
theorem one_sub_one_sub (w : EReal) : 1 - (1 - w) = w := by
  induction w with
  | bot => rfl
  | top => rfl
  | coe r =>
    rw [show (1 : EReal) = ((1 : ℝ) : EReal) by norm_cast, ← EReal.coe_sub, ← EReal.coe_sub]
    exact congrArg _ (sub_sub_cancel 1 r)

/-- One element of the kernel's result, in the reference's order of operations. -/
theorem lane_ideal (g : Fin 4 → Ideal .f32) (u w : Ideal .f32) (r : Fin 4 → Ideal .f32) :
    lane g u w r = ((u + (1 - u) * (1 - (1 - w)))
      * ((((1 - g 3 * r 3) * (1 - g 2 * r 2)) * (1 - g 1 * r 1)) * (1 - g 0 * r 0)) : EReal) := by
  have e : lane g u w r = ((u + (Ideal.ofBits .f32 0x3F800000#32 - u) * w)
      * (((Ideal.ofBits .f32 0x3F800000#32 - g 0 * r 0) * (Ideal.ofBits .f32 0x3F800000#32 - g 1 * r 1))
        * ((Ideal.ofBits .f32 0x3F800000#32 - g 2 * r 2) * (Ideal.ofBits .f32 0x3F800000#32 - g 3 * r 3))) : EReal) := rfl
  rw [e, Ideal.ofBits_one_f32, one_sub_one_sub]
  congr 1
  ac_rfl

/-! ## The reference's term at an index -/

/-- The array of ones the reference spells as a broadcast constant. -/
theorem ones_read {T : Shape} (h : S_.BroadcastsInDim T ![]) (j : T.Idx) :
    (broadcastInDim T ![] h (constant (F := Ideal) S_ .f32 0x3F800000#32) j : EReal) = 1 :=
  (broadcastInDim_scalar_apply h _ j).trans Ideal.ofBits_one_f32

/-- An array with a unit middle axis, that axis dropped. -/
theorem dropped_read {α : Type} (X : S1024x1x8192.Idx → α) (h : S1024x1x8192.ShapeCasts S1024x8192) (i : S1024x8192.Idx) :
    shapeCast S1024x8192 X h i = X (ix3 (i 0) 0 (i 1)) :=
  shapeCast_apply X h i (ix3 (i 0) 0 (i 1)) (by
    rw [Shape.rowMajor_val_three, Shape.rowMajor_val_two]
    show ((i 0).val * 1 + 0) * 8192 + (i 1).val = (i 0).val * 8192 + (i 1).val
    omega)

/-- One of the four read heads taken out of an array. -/
theorem head_read {α : Type} (o : Nat) (ho : o < 4) (X : S1024x4x8192.Idx → α) (hs : S1024x4x8192.Slices ![0, o, 0] S1024x1x8192)
    (h : S1024x1x8192.ShapeCasts S1024x8192) (i : S1024x8192.Idx) :
    shapeCast S1024x8192 (extractStridedSlice S1024x1x8192 ![0, o, 0] X hs) h i = X (ix3 (i 0) ⟨o, ho⟩ (i 1)) := by
  rw [dropped_read]
  refine extractStridedSlice_apply _ X hs _ _ fun a => ?_
  match a with
  | ⟨0, _⟩ => exact (Nat.zero_add _).symm
  | ⟨1, _⟩ => rfl
  | ⟨2, _⟩ => exact (Nat.zero_add _).symm

/-- The gates spread along a new last axis. -/
theorem gates_read {α : Type} {n : Nat} (X : S1024x4.Idx → α) (h : S1024x4.BroadcastsInDim S1024x4x1 ![0, 1])
    (h' : S1024x4x1.BroadcastsInDim ⟨3, ![1024, 4, n]⟩ ![0, 1, 2]) (a : Fin 1024) (b : Fin 4) (c : Fin n) :
    broadcastInDim ⟨3, ![1024, 4, n]⟩ ![0, 1, 2] h' (broadcastInDim S1024x4x1 ![0, 1] h X) (ix3 a b c) = X (ix2 a b) := by
  rw [broadcastInDim_apply ![0, 1, 2] h' _ (ix3 a b c) (ix3 a b 0) (fun x => match x with | ⟨0, _⟩ => rfl | ⟨1, _⟩ => rfl | ⟨2, _⟩ => rfl),
    broadcastInDim_apply ![0, 1] h X (ix3 a b 0) (ix2 a b) (fun x => match x with | ⟨0, _⟩ => rfl | ⟨1, _⟩ => rfl)]

variable (W : FVec Ideal S1024x1x8192 .f32) (R : FVec Ideal S1024x4x8192 .f32) (U : FVec Ideal S1024x8192 .f32) (G : FVec Ideal S1024x4 .f32)

/-- One minus gate times read weight, for every head. -/
def gaps : FVec Ideal S1024x4x8192 .f32 :=
  subf (broadcastInDim S1024x4x8192 ![] bcast_S_S1024x4x8192 (constant S_ .f32 0x3F800000#32))
    (mulf (broadcastInDim S1024x4x8192 ![0, 1, 2] bcast_S1024x4x1_S1024x4x8192_0_1_2
      (broadcastInDim S1024x4x1 ![0, 1] bcast_S1024x4_S1024x4x1_0_1 G)) R)

/-- The usage after the write. -/
def written : FVec Ideal S1024x8192 .f32 :=
  addf U (mulf (subf (broadcastInDim S1024x8192 ![] bcast_S_S1024x8192 (constant S_ .f32 0x3F800000#32)) U)
    (subf (broadcastInDim S1024x8192 ![] bcast_S_S1024x8192 (constant S_ .f32 0x3F800000#32))
      (shapeCast S1024x8192 (subf (broadcastInDim S1024x1x8192 ![] bcast_S_S1024x1x8192 (constant S_ .f32 0x3F800000#32)) W)
        shapeCasts_S1024x1x8192_S1024x8192)))

/-- The reference's result as a function of its arguments. -/
def refOf : FVec Ideal S1024x8192 .f32 :=
  mulf (written W U) (mulf (mulf (mulf
    (shapeCast S1024x8192 (extractStridedSlice S1024x1x8192 ![0, 3, 0] (gaps R G) slices_S1024x4x8192_S1024x1x8192_0_3_0) shapeCasts_S1024x1x8192_S1024x8192)
    (shapeCast S1024x8192 (extractStridedSlice S1024x1x8192 ![0, 2, 0] (gaps R G) slices_S1024x4x8192_S1024x1x8192_0_2_0) shapeCasts_S1024x1x8192_S1024x8192))
    (shapeCast S1024x8192 (extractStridedSlice S1024x1x8192 ![0, 1, 0] (gaps R G) slices_S1024x4x8192_S1024x1x8192_0_1_0) shapeCasts_S1024x1x8192_S1024x8192))
    (shapeCast S1024x8192 (extractStridedSlice S1024x1x8192 ![0, 0, 0] (gaps R G) slices_S1024x4x8192_S1024x1x8192_0_0_0) shapeCasts_S1024x1x8192_S1024x8192))

/-- One head's factor at an index. -/
theorem gaps_read (a : Fin 1024) (b : Fin 4) (c : Fin 8192) :
    gaps R G (ix3 a b c) = (1 - G (ix2 a b) * R (ix3 a b c) : EReal) := by
  unfold gaps
  rw [subf_apply, mulf_apply, ones_read, gates_read]

/-- The usage after the write at an index. -/
theorem written_read (i : S1024x8192.Idx) :
    written W U i = (U i + (1 - U i) * (1 - (1 - W (ix3 (i 0) 0 (i 1)))) : EReal) := by
  unfold written
  rw [addf_apply, mulf_apply, subf_apply, subf_apply, ones_read, dropped_read, subf_apply, ones_read]

/-- The kernel's value of the call's operands is the reference's result. -/
theorem outAt_eq (hw : S1024x1x8192.ShapeCasts S1024x8192) (h : S1024x4.BroadcastsInDim S1024x4x1 ![0, 1])
    (h' : S1024x4x1.BroadcastsInDim ⟨3, ![1024, 4, 16]⟩ ![0, 1, 2]) :
    outAt (F := Ideal) (shapeCast S1024x8192 W hw) R U (broadcastInDim ⟨3, ![1024, 4, 16]⟩ ![0, 1, 2] h' (broadcastInDim S1024x4x1 ![0, 1] h G))
      = refOf W R U G := by
  funext i
  unfold outAt refOf
  have e (b : Fin 4) : (1 - broadcastInDim ⟨3, ![1024, 4, 16]⟩ ![0, 1, 2] h' (broadcastInDim S1024x4x1 ![0, 1] h G) (ix3 (i 0) b (laneOf (i 1)))
      * R (ix3 (i 0) b (i 1)) : EReal) = gaps R G (ix3 (i 0) b (i 1)) :=
    (congrArg (fun z : EReal => 1 - z * R (ix3 (i 0) b (i 1))) (gates_read G h h' (i 0) b (laneOf (i 1)))).trans (gaps_read R G (i 0) b (i 1)).symm
  rw [lane_ideal, dropped_read, mulf_apply, mulf_apply, mulf_apply, mulf_apply, written_read, head_read 3 (by decide), head_read 2 (by decide),
    head_read 1 (by decide), head_read 0 (by decide)]
  exact congrArg (HMul.hMul (α := EReal) _) (congrArg₂ (HMul.hMul (α := EReal)) (congrArg₂ (HMul.hMul (α := EReal))
    (congrArg₂ (HMul.hMul (α := EReal)) (e 3) (e 2)) (e 1)) (e 0))

/-- The reference runs to its end with its result at `refOf` of its arguments, and the arguments unchanged. -/
theorem run_refOf (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = refOf (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.Math
public import Idealize.ShloMosaic.Adequacy
public import Idealize.ShloMosaic.Init

@[expose] public section

noncomputable section

namespace Cert.Proof

open Idealize.ShloMosaic Idealize.SL.Sem

/-- The kernel runs to its end over binary floating-point words, its arguments unchanged and every semaphore at zero. -/
theorem frame_p : Cert.quiescent_Kernel := fun m ρ _ =>
  (θ_run Cert.Kernel.defs _ _).mono (fun _ h => ⟨fun c => (h.1 c).2, h.2⟩) (Kernel.run_main (F := Bits) m ρ)

/-- The same over the extended reals. -/
theorem frame_pi : Cert.quiescent_KernelIdeal := fun m ρ _ =>
  (θ_run Cert.KernelIdeal.defs _ _).mono (fun _ h => ⟨fun c => (h.1 c).2, h.2⟩) (KernelIdeal.run_main (F := Ideal) m ρ)

/-- The reference runs to its end, its arguments unchanged; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Reference.run_refOf m ρ)

/-- From equal arguments the kernel and the reference end with equal results: both end at the reference's function of
    the kernel's arguments. -/
theorem algebraic : Cert.algebraic_KernelIdeal_ReferenceIdeal := by
  intro m ρ m' ρ' _ hagree
  refine ⟨fun c => KernelIdeal.outA m c, (θ_run Cert.KernelIdeal.defs _ _).mono (fun _ h c => h.1 c) (KernelIdeal.run_main (F := Ideal) m ρ), ?_⟩
  refine (θ_run Cert.ReferenceIdeal.defs _ _).mono (fun _ h c => ⟨(h c).1.trans ?_, (h c).2⟩) (Reference.run_refOf m' ρ')
  obtain ⟨-, h1, h2, h3, h4⟩ := hagree c
  rw [h1, h2, h3, h4]
  exact (Reference.outAt_eq (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) _ _ _).symm

/-- All five claims. -/
theorem claim : Cert.Claim :=
  ⟨Cert.Kernel.Gen.facts, Cert.KernelIdeal.Gen.facts, Cert.ReferenceIdeal.Gen.facts, frame_p, frame_pi, frame_ri, trivial, algebraic⟩

end Cert.Proof

end
